-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_labels [hPre_finite_and_labels : Cert.Pre_finite_and_labels.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_labels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_labels [hPre_finite_and_labels : Cert.Pre_finite_and_labels.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_labels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_and_labels [hKernelIdeal : Cert.KernelIdeal.Facts] [hPre_finite_and_labels : Cert.Pre_finite_and_labels.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_labels m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_labels [hReferenceIdeal : Cert.ReferenceIdeal.Facts] [hPre_finite_and_labels : Cert.Pre_finite_and_labels.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_labels m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_and_labels [hKernelIdeal : Cert.KernelIdeal.Facts] [hReferenceIdeal : Cert.ReferenceIdeal.Facts] [hPre_finite_and_labels : Cert.Pre_finite_and_labels.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_labels m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_and_labels : Cert.Pre_finite_and_labels.Facts),
    quiescent_Kernel (hKernel := hKernel)
    ∧ quiescent_KernelIdeal (hKernelIdeal := hKernelIdeal)
    ∧ quiescent_KernelIdeal_pre_finite_and_labels (hKernelIdeal := hKernelIdeal) (hPre_finite_and_labels := hPre_finite_and_labels)
    ∧ quiescent_ReferenceIdeal (hReferenceIdeal := hReferenceIdeal)
    ∧ quiescent_ReferenceIdeal_pre_finite_and_labels (hReferenceIdeal := hReferenceIdeal) (hPre_finite_and_labels := hPre_finite_and_labels)
    ∧ preserves_Kernel_KernelIdeal
    ∧ algebraic_KernelIdeal_ReferenceIdeal_pre_finite_and_labels (hKernelIdeal := hKernelIdeal) (hReferenceIdeal := hReferenceIdeal) (hPre_finite_and_labels := hPre_finite_and_labels)
-- ==== Pre_finite_and_labels.lean ====
abbrev S512x32 : Shape := ⟨2, ![512, 32]⟩
abbrev S4096x32 : Shape := ⟨2, ![4096, 32]⟩
abbrev S4096x16 : Shape := ⟨2, ![4096, 16]⟩
abbrev S_ : Shape := ⟨0, ![]⟩

class Facts : Prop where
  bcast_S_S512x32 : S_.BroadcastsInDim S512x32 (![] : Fin 0 → Fin S512x32.rank)
  reducesTo_S512x32_S_d0_1 : S512x32.ReducesTo [0, 1] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn {F : FTy → Type} [FloatOps F] (main_arg0 : FVec F S512x32 .f32) (main_arg1 : FVec F S4096x32 .f32) (main_arg2 : FVec F S4096x16 .f32) : IVec S_ 1 :=
  let main_v0 : FVec F S512x32 .f32 := Host.absf main_arg0
  let main_cst : FVec F S_ .f32 := constant S_ .f32 0x7F800000#32
  let main_v1 : FVec F S512x32 .f32 := broadcastInDim S512x32 ![] bcast_S_S512x32 main_cst
  let main_v2 : IVec S512x32 1 := cmpf .olt main_v0 main_v1
  let main_c : IVec S_ 1 := constantI S_ 1 1#1
  let main_v3 : IVec S_ 1 := (fun x v => Host.reduce IntOp.andi x v reducesTo_S512x32_S_d0_1 h_S_) main_v2 main_c
  let main_v4 : FVec F S4096x32 .f32 := Host.absf main_arg1
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_cst_2 : FVec F S_ .f32 := constant S_ .f32 0x00000000#32
  let main_v9 : FVec F S4096x16 .f32 := broadcastInDim S4096x16 ![] bcast_S_S4096x16 main_cst_2
  let main_v10 : IVec S4096x16 1 := cmpf .oeq main_arg2 main_v9
  let main_cst_3 : FVec F S_ .f32 := constant S_ .f32 0x3F800000#32
  let main_v11 : FVec F S4096x16 .f32 := broadcastInDim S4096x16 ![] bcast_S_S4096x16 main_cst_3
  let main_v12 : IVec S4096x16 1 := cmpf .oeq main_arg2 main_v11
  let main_v13 : IVec S4096x16 1 := ori main_v10 main_v12
  let main_c_4 : IVec S_ 1 := constantI S_ 1 1#1
  let main_v14 : IVec S_ 1 := (fun x v => Host.reduce IntOp.andi x v reducesTo_S4096x16_S_d0_1 h_S_) main_v13 main_c_4
  let main_v15 : IVec S_ 1 := andi main_v8 main_v14
  main_v15
-- ==== Kernel.lean ====
abbrev S512x32 : Shape := ⟨2, ![512, 32]⟩
abbrev S4096x32 : Shape := ⟨2, ![4096, 32]⟩
abbrev S4096x16 : Shape := ⟨2, ![4096, 16]⟩
abbrev S512x256 : Shape := ⟨2, ![512, 256]⟩
abbrev S128x32 : Shape := ⟨2, ![128, 32]⟩
abbrev S128x256 : Shape := ⟨2, ![128, 256]⟩
abbrev S128x4096 : Shape := ⟨2, ![128, 4096]⟩
abbrev S1x32 : Shape := ⟨2, ![1, 32]⟩
abbrev S1x512 : Shape := ⟨2, ![1, 512]⟩
abbrev S128x512 : Shape := ⟨2, ![128, 512]⟩
abbrev S128x1 : Shape := ⟨2, ![128, 1]⟩
abbrev S128 : Shape := ⟨1, ![128]⟩
abbrev S128x16 : Shape := ⟨2, ![128, 16]⟩
abbrev S512x16 : Shape := ⟨2, ![512, 16]⟩
abbrev S16x256 : Shape := ⟨2, ![16, 256]⟩
abbrev S512x16x16 : Shape := ⟨3, ![512, 16, 16]⟩

abbrev nBuf : Space → Nat
  | .hbm => 5
  | .vmem => 8
  | .smem => 0
  | _ => 0

abbrev bufTy : (tb : Table) → Fin (tcTables nBuf tb) → BufTy
  | .hbm, ⟨0, _⟩ => ⟨S512x32, .f32⟩
  | .hbm, ⟨1, _⟩ => ⟨S4096x32, .f32⟩
  | .hbm, ⟨2, _⟩ => ⟨S4096x16, .f32⟩
  | .hbm, ⟨3, _⟩ => ⟨S512x256, .f32⟩
  | .hbm, ⟨4, _⟩ => ⟨S512x16x16, .f32⟩
  | .local _ .vmem, ⟨0, _⟩ => ⟨S128x32, .f32⟩
  | .local _ .vmem, ⟨1, _⟩ => ⟨S128x32, .f32⟩
  | .local _ .vmem, ⟨2, _⟩ => ⟨S4096x32, .f32⟩
  | .local _ .vmem, ⟨3, _⟩ => ⟨S4096x16, .f32⟩
  | .local _ .vmem, ⟨4, _⟩ => ⟨S128x256, .f32⟩
  | .local _ .vmem, ⟨5, _⟩ => ⟨S128x256, .f32⟩
  | .local _ .vmem, ⟨6, _⟩ => ⟨S128x4096, .f32⟩
  | .local _ .vmem, ⟨7, _⟩ => ⟨S128x4096, .f32⟩
  | _, _ => ⟨S512x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c8_i32 : BitVec 32 := 8#32
  let v122 : BitVec 32 := Scalar.addi c0_i32 c8_i32
  let c1_i32 : BitVec 32 := 1#32
  ⟨c0_i32, v122, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S512x32 : Shape := ⟨2, ![512, 32]⟩
abbrev S4096x32 : Shape := ⟨2, ![4096, 32]⟩
abbrev S4096x16 : Shape := ⟨2, ![4096, 16]⟩
abbrev S1x4096x32 : Shape := ⟨3, ![1, 4096, 32]⟩
abbrev S512x1x32 : Shape := ⟨3, ![512, 1, 32]⟩
abbrev S512x4096x32 : Shape := ⟨3, ![512, 4096, 32]⟩
abbrev S_ : Shape := ⟨0, ![]⟩
abbrev S512x4096 : Shape := ⟨2, ![512, 4096]⟩
abbrev S512x8 : Shape := ⟨2, ![512, 8]⟩
abbrev S512x8x1 : Shape := ⟨3, ![512, 8, 1]⟩
abbrev S1 : Shape := ⟨1, ![1]⟩
abbrev S1x1x1 : Shape := ⟨3, ![1, 1, 1]⟩
abbrev S512x8x16 : Shape := ⟨3, ![512, 8, 16]⟩
abbrev S512x8x16x1 : Shape := ⟨4, ![512, 8, 16, 1]⟩
abbrev S1x1x1x16 : Shape := ⟨4, ![1, 1, 1, 16]⟩
abbrev S512x8x16x16 : Shape := ⟨4, ![512, 8, 16, 16]⟩
abbrev S512x16x16 : Shape := ⟨3, ![512, 16, 16]⟩
abbrev S512x16 : Shape := ⟨2, ![512, 16]⟩
abbrev S512x16x1 : Shape := ⟨3, ![512, 16, 1]⟩

abbrev nBuf : Space → Nat
  | .hbm => 54
  | .vmem => 0
  | .smem => 0
  | _ => 0

abbrev bufTy : (tb : Table) → Fin (tcTables nBuf tb) → BufTy
  | .hbm, ⟨0, _⟩ => ⟨S512x32, .f32⟩
  | .hbm, ⟨1, _⟩ => ⟨S4096x32, .f32⟩
  | .hbm, ⟨2, _⟩ => ⟨S4096x16, .f32⟩
  | .hbm, ⟨3, _⟩ => ⟨S1x4096x32, .f32⟩
  | .hbm, ⟨4, _⟩ => ⟨S512x1x32, .f32⟩
  | .hbm, ⟨5, _⟩ => ⟨S512x4096x32, .f32⟩
  | .hbm, ⟨6, _⟩ => ⟨S512x4096x32, .f32⟩
  | .hbm, ⟨7, _⟩ => ⟨S512x4096x32, .f32⟩
  | .hbm, ⟨8, _⟩ => ⟨S512x4096x32, .f32⟩
  | .hbm, ⟨9, _⟩ => ⟨S_, .f32⟩
  | .hbm, ⟨10, _⟩ => ⟨S512x4096, .f32⟩
  | .hbm, ⟨11, _⟩ => ⟨S512x4096, .f32⟩
  | .hbm, ⟨12, _⟩ => ⟨S512x4096, .f32⟩
  | .hbm, ⟨13, _⟩ => ⟨S512x8, .f32⟩
  | .hbm, ⟨14, _⟩ => ⟨S512x8, .i32⟩
  | .hbm, ⟨15, _⟩ => ⟨S_, .i32⟩
  | .hbm, ⟨16, _⟩ => ⟨S512x8, .i32⟩
  | .hbm, ⟨17, _⟩ => ⟨S512x8, .i1⟩
  | .hbm, ⟨18, _⟩ => ⟨S_, .i32⟩
  | .hbm, ⟨19, _⟩ => ⟨S512x8, .i32⟩
  | .hbm, ⟨20, _⟩ => ⟨S512x8, .i32⟩
  | .hbm, ⟨21, _⟩ => ⟨S512x8, .i32⟩
  | .hbm, ⟨22, _⟩ => ⟨S512x8x1, .i32⟩
  | .hbm, ⟨23, _⟩ => ⟨S1, .i32⟩
  | .hbm, ⟨24, _⟩ => ⟨S_, .i32⟩
  | .hbm, ⟨25, _⟩ => ⟨S512x8x1, .i32⟩
  | .hbm, ⟨26, _⟩ => ⟨S512x8x1, .i1⟩
  | .hbm, ⟨27, _⟩ => ⟨S1x1x1, .i32⟩
  | .hbm, ⟨28, _⟩ => ⟨S512x8x1, .i32⟩
  | .hbm, ⟨29, _⟩ => ⟨S512x8x1, .i1⟩
  | .hbm, ⟨30, _⟩ => ⟨S512x8x1, .i1⟩
  | .hbm, ⟨31, _⟩ => ⟨S_, .i1⟩
  | .hbm, ⟨32, _⟩ => ⟨S512x8, .i1⟩
  | .hbm, ⟨33, _⟩ => ⟨S512x8x16, .f32⟩
  | .hbm, ⟨34, _⟩ => ⟨S512x8x16, .i1⟩
  | .hbm, ⟨35, _⟩ => ⟨S_, .f32⟩
  | .hbm, ⟨36, _⟩ => ⟨S512x8x16, .f32⟩
  | .hbm, ⟨37, _⟩ => ⟨S512x8x16, .f32⟩
  | .hbm, ⟨38, _⟩ => ⟨S512x8x16, .i32⟩
  | .hbm, ⟨39, _⟩ => ⟨S512x8x16x1, .i32⟩
  | .hbm, ⟨40, _⟩ => ⟨S1x1x1x16, .i32⟩
  | .hbm, ⟨41, _⟩ => ⟨S512x8x16x16, .i32⟩
  | .hbm, ⟨42, _⟩ => ⟨S512x8x16x16, .i32⟩
  | .hbm, ⟨43, _⟩ => ⟨S512x8x16x16, .i1⟩
  | .hbm, ⟨44, _⟩ => ⟨S512x8x16x16, .i32⟩
  | .hbm, ⟨45, _⟩ => ⟨S_, .i32⟩
  | .hbm, ⟨46, _⟩ => ⟨S512x16x16, .i32⟩
  | .hbm, ⟨47, _⟩ => ⟨S_, .i32⟩
  | .hbm, ⟨48, _⟩ => ⟨S512x16, .i32⟩
  | .hbm, ⟨49, _⟩ => ⟨S512x16x1, .i32⟩
  | .hbm, ⟨50, _⟩ => ⟨S512x16x16, .f32⟩
  | .hbm, ⟨51, _⟩ => ⟨S512x16x1, .f32⟩
  | .hbm, ⟨52, _⟩ => ⟨S512x16x16, .f32⟩
  | .hbm, ⟨53, _⟩ => ⟨S512x16x16, .f32⟩
  | _, _ => ⟨S512x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_values : Ref sig .tc := ⟨.hbm, 13, rfl⟩
abbrev main_indices : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v9 : Ref sig .tc := ⟨.hbm, 37, rfl⟩
abbrev main_v10 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v11 : Ref sig .tc := ⟨.hbm, 44, rfl⟩
abbrev main_c : Ref sig .tc := ⟨.hbm, 45, rfl⟩
abbrev main_v12 : Ref sig .tc := ⟨.hbm, 46, rfl⟩
abbrev main_c_0 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩

abbrev nD : Nat := 1
abbrev τ : Topo := Topo.v7x

variable {F : FTy → Type} [FloatOps F]
-- ==== Proof.Body.lean ====
/- One round of the kernel's loop as a step on whole arrays: the rows of squared distances and the mask, each
   read as one `128 × 4096` array. -/
module

public import proofs.«01_k».proof.Proof.Gen.KernelIdeal.Frame
public import Idealize.ShloMosaic.Lib.Pipeline.ValueKit
public import Idealize.ShloMosaic.Lib.Pipeline.ReadBack

@[expose] public section

set_option maxRecDepth 16384
set_option maxHeartbeats 400000

noncomputable section

namespace Cert.KernelIdeal.Val

open Idealize.ShloMosaic Idealize.ShloMosaic.TcCoe Idealize.ShloMosaic.Tactic
open Idealize.SL.Sem Cert.KernelIdeal.Gen

variable {F : FTy → Type} [FloatOps F]

/-! ## The nearest remaining position, chunk by chunk -/

/-- A chunk's least entry, row by row. -/
def cmin (T : Vec F S128x512 .f32) : FVec F S128x1 .f32 :=
  shapeCast S128x1 (multiReduction .minimumf [1] S128 T 0x7F800000#32 reduces_S128x512_S128 (.inl rfl) rfl) shapeCasts_S128_S128x1

/-- The column of a chunk (whose columns start at `o`) first holding its least entry, row by row. -/
def cfirst (o : BitVec 32) (T : Vec F S128x512 .f32) : IVec S128x1 32 :=
  shapeCast S128x1 (multiReductionI .minsi [1] S128 (select (cmpf .oeq T (broadcastTo S128x512 (cmin T) broadcasts_S128x1_S128x512))
    (addi (iota .tc S128x512 32 [1] iota_S128x512_d1_w32) (broadcast S128x512 o)) (broadcast S128x512 4096#32)) 2147483647#32
    reduces_S128x512_S128 rfl) shapeCasts_S128_S128x1

/-- The running least entry and its column, one chunk further. -/
def upd (o : BitVec 32) (T : Vec F S128x512 .f32) (s : FVec F S128x1 .f32 × IVec S128x1 32) : FVec F S128x1 .f32 × IVec S128x1 32 :=
  (select (cmpf .olt (cmin T) s.1) (cmin T) s.1, select (cmpf .olt (cmin T) s.1) (cfirst o T) s.2)

/-- Before the first chunk: `+∞` and no column. -/
def upd0 : FVec F S128x1 .f32 × IVec S128x1 32 :=
  (broadcast S128x1 (Scalar.ofBits .f32 0x7F800000#32), broadcast S128x1 4096#32)

/-- The columns from `o` on, `512` of them, of a `128 × 4096` array. -/
abbrev tile (o : ℕ) (h : ∀ a, (![0, o] : Fin 2 → ℕ) a + S128x512.size a ≤ S128x4096.size a) (A : Vec F S128x4096 .f32) : Vec F S128x512 .f32 :=
  View.ld A (Rect.unit (s := S128x4096) ![0, o] S128x512.size h)

/-- The column of the least entry of each row, found over the eight chunks. -/
def firstOf (A : Vec F S128x4096 .f32) : IVec S128x1 32 :=
  (upd 3584#32 (tile 3584 inb_S128x4096_S128x512_0_3584 A) <| upd 3072#32 (tile 3072 inb_S128x4096_S128x512_0_3072 A)
    <| upd 2560#32 (tile 2560 inb_S128x4096_S128x512_0_2560 A) <| upd 2048#32 (tile 2048 inb_S128x4096_S128x512_0_2048 A)
    <| upd 1536#32 (tile 1536 inb_S128x4096_S128x512_0_1536 A) <| upd 1024#32 (tile 1024 inb_S128x4096_S128x512_0_1024 A)
    <| upd 512#32 (tile 512 inb_S128x4096_S128x512_0_512 A) <| upd 0#32 (tile 0 inb_S128x4096_S128x512_0_0 A) upd0).2

/-- An array with the entries at the found columns replaced by `w`. -/
def putFirst (w : F .f32) (f : IVec S128x1 32) (A : Vec F S128x4096 .f32) : Vec F S128x4096 .f32 := fun j =>
  Scalar.select (Scalar.cmpi .eq (BitVec.ofNat 32 (j 1).val) (f (ix2 (j 0) 0))) w (A j)

theorem firstOf_eq (A : Vec F S128x4096 .f32) :
    firstOf A = k0_pay24
      (k0_pay20 (k0_pay8 (tile 0 inb_S128x4096_S128x512_0_0 A) (tile 512 inb_S128x4096_S128x512_0_512 A))
        (k0_pay11 (tile 1024 inb_S128x4096_S128x512_0_1024 A)) (tile 1536 inb_S128x4096_S128x512_0_1536 A)
        (tile 2048 inb_S128x4096_S128x512_0_2048 A))
      (k0_pay21 (k0_pay8 (tile 0 inb_S128x4096_S128x512_0_0 A) (tile 512 inb_S128x4096_S128x512_0_512 A))
        (k0_pay9 (tile 0 inb_S128x4096_S128x512_0_0 A) (tile 512 inb_S128x4096_S128x512_0_512 A)) k0_pay10
        (k0_pay11 (tile 1024 inb_S128x4096_S128x512_0_1024 A)) (k0_pay12 (tile 1024 inb_S128x4096_S128x512_0_1024 A)) 4096#32
        (tile 1536 inb_S128x4096_S128x512_0_1536 A) (tile 2048 inb_S128x4096_S128x512_0_2048 A))
      (tile 2560 inb_S128x4096_S128x512_0_2560 A) k0_pay22 (k0_pay23 (tile 2560 inb_S128x4096_S128x512_0_2560 A))
      (tile 3072 inb_S128x4096_S128x512_0_3072 A) (tile 3584 inb_S128x4096_S128x512_0_3584 A) := rfl

/-- Which entries of the chunk at `o` stand at the found columns. -/
def hit (o : BitVec 32) (f : IVec S128x1 32) : IVec S128x512 1 :=
  cmpi .eq (addi (iota .tc S128x512 32 [1] iota_S128x512_d1_w32) (broadcast S128x512 o)) (broadcastTo S128x512 f broadcasts_S128x1_S128x512)

theorem hit0_eq (A : Vec F S128x4096 .f32) :
    hit 0#32 (firstOf A) = k0_pay25
      (k0_pay20 (k0_pay8 (tile 0 inb_S128x4096_S128x512_0_0 A) (tile 512 inb_S128x4096_S128x512_0_512 A))
        (k0_pay11 (tile 1024 inb_S128x4096_S128x512_0_1024 A)) (tile 1536 inb_S128x4096_S128x512_0_1536 A)
        (tile 2048 inb_S128x4096_S128x512_0_2048 A))
      (k0_pay21 (k0_pay8 (tile 0 inb_S128x4096_S128x512_0_0 A) (tile 512 inb_S128x4096_S128x512_0_512 A))
        (k0_pay9 (tile 0 inb_S128x4096_S128x512_0_0 A) (tile 512 inb_S128x4096_S128x512_0_512 A)) k0_pay10
        (k0_pay11 (tile 1024 inb_S128x4096_S128x512_0_1024 A)) (k0_pay12 (tile 1024 inb_S128x4096_S128x512_0_1024 A)) 4096#32
        (tile 1536 inb_S128x4096_S128x512_0_1536 A) (tile 2048 inb_S128x4096_S128x512_0_2048 A))
      (tile 2560 inb_S128x4096_S128x512_0_2560 A) k0_pay22 (k0_pay23 (tile 2560 inb_S128x4096_S128x512_0_2560 A))
      (tile 3072 inb_S128x4096_S128x512_0_3072 A) (tile 3584 inb_S128x4096_S128x512_0_3584 A) := rfl

theorem tile_emb (o : ℕ) (h : ∀ a, (![0, o] : Fin 2 → ℕ) a + S128x512.size a ≤ S128x4096.size a) (q : Fin 128) (x : Fin 512) (hb : o + x.val < 4096) :
    (Rect.unit (s := S128x4096) ![0, o] S128x512.size h).emb (ix2 q x) = ix2 q ⟨o + x.val, hb⟩ := by
  refine Rect.emb_eq_of_coords _ _ _ fun a => ?_
  fin_cases a
  · show q.val = 0 + 1 * q.val; omega
  · show o + x.val = o + 1 * x.val; omega

/-- A chunk's entry is the array's, so many columns on. -/
theorem tile_read (o : ℕ) (h : ∀ a, (![0, o] : Fin 2 → ℕ) a + S128x512.size a ≤ S128x4096.size a) (A : Vec F S128x4096 .f32)
    (q : Fin 128) (x : Fin 512) (hb : o + x.val < 4096) : tile o h A (ix2 q x) = A (ix2 q ⟨o + x.val, hb⟩) := by
  rw [← tile_emb o h q x hb]; rfl

/-- What is stored back into the chunk at `o` is that chunk of the array with the found entries replaced. -/
theorem put_piece (o : ℕ) (h : ∀ a, (![0, o] : Fin 2 → ℕ) a + S128x512.size a ≤ S128x4096.size a) (w : F .f32) (f : IVec S128x1 32)
    (A : Vec F S128x4096 .f32) (x : S128x512.Idx) :
    shapeCast S128x512 (select (hit (BitVec.ofNat 32 o) f) (broadcast S128x512 w) (tile o h A)) shapeCasts_S128x512_S128x512 x
      = putFirst w f A ((Rect.unit (s := S128x4096) ![0, o] S128x512.size h).emb x) := by
  idx_vars x
  have hb : o + x1.val < 4096 := by have h1 : o + 512 ≤ 4096 := h 1; omega
  have he := tile_emb o h x0 x1 hb
  have ht := tile_read o h A x0 x1 hb
  pointwise [hit, putFirst]
  erw [he, ht]
  have hw : IntOp.addi (BitVec.ofNat 32 x1.val) (BitVec.ofNat 32 o) = BitVec.ofNat 32 (o + x1.val) := by
    rw [Nat.add_comm]; exact (BitVec.ofNat_add x1.val o).symm
  rw [hw]
  rfl

theorem pay68_eq (f : IVec S128x1 32) (T : Vec F S128x512 .f32) : k0_pay68 f T = shapeCast S128x512 (select (hit 3584#32 f) (broadcast S128x512 (Scalar.ofBits .f32 0x7F800000#32)) T) shapeCasts_S128x512_S128x512 := rfl
theorem pay65_eq (f : IVec S128x1 32) (T : Vec F S128x512 .f32) : k0_pay65 (k0_pay43 f) T = shapeCast S128x512 (select (hit 3072#32 f) (broadcast S128x512 (Scalar.ofBits .f32 0x7F800000#32)) T) shapeCasts_S128x512_S128x512 := rfl
theorem pay42_eq (f : IVec S128x1 32) (T : Vec F S128x512 .f32) : k0_pay42 f T = shapeCast S128x512 (select (hit 2560#32 f) (broadcast S128x512 (Scalar.ofBits .f32 0x7F800000#32)) T) shapeCasts_S128x512_S128x512 := rfl
theorem pay39_eq (f : IVec S128x1 32) (T : Vec F S128x512 .f32) : k0_pay39 (k0_pay37 f) T = shapeCast S128x512 (select (hit 2048#32 f) (broadcast S128x512 (Scalar.ofBits .f32 0x7F800000#32)) T) shapeCasts_S128x512_S128x512 := rfl
theorem pay36_eq (f : IVec S128x1 32) (T : Vec F S128x512 .f32) : k0_pay36 f T = shapeCast S128x512 (select (hit 1536#32 f) (broadcast S128x512 (Scalar.ofBits .f32 0x7F800000#32)) T) shapeCasts_S128x512_S128x512 := rfl
theorem pay33_eq (f : IVec S128x1 32) (T : Vec F S128x512 .f32) : k0_pay33 (k0_pay31 f) T = shapeCast S128x512 (select (hit 1024#32 f) (broadcast S128x512 (Scalar.ofBits .f32 0x7F800000#32)) T) shapeCasts_S128x512_S128x512 := rfl
theorem pay30_eq (f : IVec S128x1 32) (T : Vec F S128x512 .f32) : k0_pay30 f T = shapeCast S128x512 (select (hit 512#32 f) (broadcast S128x512 (Scalar.ofBits .f32 0x7F800000#32)) T) shapeCasts_S128x512_S128x512 := rfl
theorem pay27_eq (f : IVec S128x1 32) (T : Vec F S128x512 .f32) : k0_pay27 (hit 0#32 f) T = shapeCast S128x512 (select (hit 0#32 f) (broadcast S128x512 (Scalar.ofBits .f32 0x7F800000#32)) T) shapeCasts_S128x512_S128x512 := rfl
theorem pay67_eq (f : IVec S128x1 32) (T : Vec F S128x512 .f32) : k0_pay67 f T = shapeCast S128x512 (select (hit 3584#32 f) (broadcast S128x512 (Scalar.ofBits .f32 0x3F800000#32)) T) shapeCasts_S128x512_S128x512 := rfl
theorem pay64_eq (f : IVec S128x1 32) (T : Vec F S128x512 .f32) : k0_pay64 (k0_pay43 f) T = shapeCast S128x512 (select (hit 3072#32 f) (broadcast S128x512 (Scalar.ofBits .f32 0x3F800000#32)) T) shapeCasts_S128x512_S128x512 := rfl
theorem pay41_eq (f : IVec S128x1 32) (T : Vec F S128x512 .f32) : k0_pay41 f T = shapeCast S128x512 (select (hit 2560#32 f) (broadcast S128x512 (Scalar.ofBits .f32 0x3F800000#32)) T) shapeCasts_S128x512_S128x512 := rfl
theorem pay38_eq (f : IVec S128x1 32) (T : Vec F S128x512 .f32) : k0_pay38 (k0_pay37 f) T = shapeCast S128x512 (select (hit 2048#32 f) (broadcast S128x512 (Scalar.ofBits .f32 0x3F800000#32)) T) shapeCasts_S128x512_S128x512 := rfl
theorem pay35_eq (f : IVec S128x1 32) (T : Vec F S128x512 .f32) : k0_pay35 f T = shapeCast S128x512 (select (hit 1536#32 f) (broadcast S128x512 (Scalar.ofBits .f32 0x3F800000#32)) T) shapeCasts_S128x512_S128x512 := rfl
theorem pay32_eq (f : IVec S128x1 32) (T : Vec F S128x512 .f32) : k0_pay32 (k0_pay31 f) T = shapeCast S128x512 (select (hit 1024#32 f) (broadcast S128x512 (Scalar.ofBits .f32 0x3F800000#32)) T) shapeCasts_S128x512_S128x512 := rfl
theorem pay29_eq (f : IVec S128x1 32) (T : Vec F S128x512 .f32) : k0_pay29 f T = shapeCast S128x512 (select (hit 512#32 f) (broadcast S128x512 (Scalar.ofBits .f32 0x3F800000#32)) T) shapeCasts_S128x512_S128x512 := rfl
theorem pay26_eq (f : IVec S128x1 32) (T : Vec F S128x512 .f32) : k0_pay26 (hit 0#32 f) T = shapeCast S128x512 (select (hit 0#32 f) (broadcast S128x512 (Scalar.ofBits .f32 0x3F800000#32)) T) shapeCasts_S128x512_S128x512 := rfl

/-! ## One trip -/

section
variable (𝒱 : Variants) (c : Dev nD) (bd : Option 𝒱.V) (i : grid0.Coords)
  (arg1 : Memref sig .tc .vmem S128x32 .f32) (harg1 : arg1.IsWhole) (arg2 : Memref sig .tc .vmem S4096x32 .f32) (harg2 : arg2.IsWhole)
  (arg3 : Memref sig .tc .vmem S4096x16 .f32) (harg3 : arg3.IsWhole) (arg4 : Memref sig .tc .vmem S128x256 .f32) (harg4 : arg4.IsWhole)
  (arg5 : Memref sig .tc .vmem S128x4096 .f32) (harg5 : arg5.IsWhole) (arg6 : Memref sig .tc .vmem S128x4096 .f32) (harg6 : arg6.IsWhole)
  (v0 : Vec F S128x32 .f32) (v1 : FVec F S1x32 .f32) (v97 : FVec F S128x512 .f32) (v98 : FVec F S128x512 .f32)
  (k : Fin k0_t1_loop.trips) (f5 : BufTy.Contents (Elt F) arg5.view.ty) (f6 : BufTy.Contents (Elt F) arg6.view.ty)

/-- A trip leaves the rows with the found entries at `+∞`. -/
theorem trip_d2 : arg5.view.read (Elt F) (arg5.view.writes (Elt F) f5
      (tripL_k0_t1 (F := F) 𝒱 c bd i arg1 harg1 arg2 harg2 arg3 harg3 arg4 harg4 arg5 harg5 arg6 harg6 v0 v1 v97 v98 k f5 f6).1)
    = putFirst (Scalar.ofBits .f32 0x7F800000#32) (firstOf (arg5.view.read (Elt F) f5)) (arg5.view.read (Elt F) f5) := by
  funext y
  refine View.read_writes_apply_of_pieces _ _ _ _ ?_ y ?_
  · apply View.PiecesOf.mem
    unfold tripL_k0_t1
    delta trip_k0_t1
    dsimp only
    sl_unfold_words
    simp only [View.readAt_eq_ld]
    generalize arg5.view.read (Elt F) f5 = A
    rw [← hit0_eq A, ← firstOf_eq A]
    generalize firstOf A = f
    refine ⟨fun x => ?_, fun x => ?_, fun x => ?_, fun x => ?_, fun x => ?_, fun x => ?_, fun x => ?_, fun x => ?_, trivial⟩
    · dsimp only at x ⊢; rw [pay68_eq]; exact put_piece 3584 inb_S128x4096_S128x512_0_3584 (Scalar.ofBits .f32 0x7F800000#32) f A x
    · dsimp only at x ⊢; rw [pay65_eq]; exact put_piece 3072 inb_S128x4096_S128x512_0_3072 (Scalar.ofBits .f32 0x7F800000#32) f A x
    · dsimp only at x ⊢; rw [pay42_eq]; exact put_piece 2560 inb_S128x4096_S128x512_0_2560 (Scalar.ofBits .f32 0x7F800000#32) f A x
    · dsimp only at x ⊢; rw [pay39_eq]; exact put_piece 2048 inb_S128x4096_S128x512_0_2048 (Scalar.ofBits .f32 0x7F800000#32) f A x
    · dsimp only at x ⊢; rw [pay36_eq]; exact put_piece 1536 inb_S128x4096_S128x512_0_1536 (Scalar.ofBits .f32 0x7F800000#32) f A x
    · dsimp only at x ⊢; rw [pay33_eq]; exact put_piece 1024 inb_S128x4096_S128x512_0_1024 (Scalar.ofBits .f32 0x7F800000#32) f A x
    · dsimp only at x ⊢; rw [pay30_eq]; exact put_piece 512 inb_S128x4096_S128x512_0_512 (Scalar.ofBits .f32 0x7F800000#32) f A x
    · dsimp only at x ⊢; rw [pay27_eq]; exact put_piece 0 inb_S128x4096_S128x512_0_0 (Scalar.ofBits .f32 0x7F800000#32) f A x
  · unfold tripL_k0_t1
    delta trip_k0_t1
    dsimp only
    exact View.cover_of_tiled (Val := Elt F) (s := S128x4096) (e := .f32) _ ![128, 512] rfl y

/-- A trip leaves the mask with ones at the found entries. -/
theorem trip_mask : arg6.view.read (Elt F) (arg6.view.writes (Elt F) f6
      (tripL_k0_t1 (F := F) 𝒱 c bd i arg1 harg1 arg2 harg2 arg3 harg3 arg4 harg4 arg5 harg5 arg6 harg6 v0 v1 v97 v98 k f5 f6).2)
    = putFirst (Scalar.ofBits .f32 0x3F800000#32) (firstOf (arg5.view.read (Elt F) f5)) (arg6.view.read (Elt F) f6) := by
  funext y
  refine View.read_writes_apply_of_pieces _ _ _ _ ?_ y ?_
  · apply View.PiecesOf.mem
    unfold tripL_k0_t1
    delta trip_k0_t1
    dsimp only
    sl_unfold_words
    simp only [View.readAt_eq_ld]
    generalize arg5.view.read (Elt F) f5 = A, arg6.view.read (Elt F) f6 = B
    rw [← hit0_eq A, ← firstOf_eq A]
    generalize firstOf A = f
    refine ⟨fun x => ?_, fun x => ?_, fun x => ?_, fun x => ?_, fun x => ?_, fun x => ?_, fun x => ?_, fun x => ?_, trivial⟩
    · dsimp only at x ⊢; rw [pay67_eq]; exact put_piece 3584 inb_S128x4096_S128x512_0_3584 (Scalar.ofBits .f32 0x3F800000#32) f B x
    · dsimp only at x ⊢; rw [pay64_eq]; exact put_piece 3072 inb_S128x4096_S128x512_0_3072 (Scalar.ofBits .f32 0x3F800000#32) f B x
    · dsimp only at x ⊢; rw [pay41_eq]; exact put_piece 2560 inb_S128x4096_S128x512_0_2560 (Scalar.ofBits .f32 0x3F800000#32) f B x
    · dsimp only at x ⊢; rw [pay38_eq]; exact put_piece 2048 inb_S128x4096_S128x512_0_2048 (Scalar.ofBits .f32 0x3F800000#32) f B x
    · dsimp only at x ⊢; rw [pay35_eq]; exact put_piece 1536 inb_S128x4096_S128x512_0_1536 (Scalar.ofBits .f32 0x3F800000#32) f B x
    · dsimp only at x ⊢; rw [pay32_eq]; exact put_piece 1024 inb_S128x4096_S128x512_0_1024 (Scalar.ofBits .f32 0x3F800000#32) f B x
    · dsimp only at x ⊢; rw [pay29_eq]; exact put_piece 512 inb_S128x4096_S128x512_0_512 (Scalar.ofBits .f32 0x3F800000#32) f B x
    · dsimp only at x ⊢; rw [pay26_eq]; exact put_piece 0 inb_S128x4096_S128x512_0_0 (Scalar.ofBits .f32 0x3F800000#32) f B x
  · unfold tripL_k0_t1
    delta trip_k0_t1
    dsimp only
    exact View.cover_of_tiled (Val := Elt F) (s := S128x4096) (e := .f32) _ ![128, 512] rfl y

end

end Cert.KernelIdeal.Val

end
-- ==== Proof.First.lean ====
/- The column a trip finds, at the exact values: the first one holding the row's least entry. -/
module

public import proofs.«01_k».proof.Proof.Body
public import Idealize.ShloMosaic.Lib.SortNet.Extract
public import Idealize.ShloMosaic.Lib.WordArith

@[expose] public section

set_option maxRecDepth 16384
set_option maxHeartbeats 400000

noncomputable section

namespace Cert.KernelIdeal.Val

open Idealize.ShloMosaic Idealize.ShloMosaic.TcCoe Idealize.ShloMosaic.Tactic
open Idealize.SL.Sem Cert.KernelIdeal.Gen

/-- The signed least of the places of a chunk meeting a condition, every other place counting as a large one, is
    the first place meeting it. -/
theorem fold_first {n : ℕ} (P : Fin n → Prop) [DecidablePred P] (o N : ℕ) (hN : o + n ≤ N) (hN' : N < 2147483647) (hP : ∃ i, P i) :
    ∃ i, P i ∧ (∀ j, P j → i ≤ j) ∧
      Finset.fold IntOp.minsi 2147483647#32 (fun x => if P x then IntOp.addi (BitVec.ofNat 32 x.val) (BitVec.ofNat 32 o) else BitVec.ofNat 32 N)
        Finset.univ = BitVec.ofNat 32 (o + i.val) := by
  obtain ⟨i, hi, hmin⟩ := Finset.exists_min_image (Finset.univ.filter P) (fun i => i) (by obtain ⟨i, hi⟩ := hP; exact ⟨i, by simpa using hi⟩)
  have hi' : P i := by simpa using hi
  have hmin' : ∀ j, P j → i ≤ j := fun j hj => hmin j (by simpa using hj)
  have key : ∀ a : ℕ, a < 2147483648 → (BitVec.ofNat 32 a).toInt = (a : ℤ) := fun a ha => by
    have h1 : (BitVec.ofNat 32 a).toNat = a := by rw [BitVec.toNat_ofNat]; exact Nat.mod_eq_of_lt (by omega)
    rw [BitVec.toInt_eq_toNat_of_lt (by rw [h1]; omega), h1]
  have hadd : ∀ x : Fin n, IntOp.addi (BitVec.ofNat 32 x.val) (BitVec.ofNat 32 o) = BitVec.ofNat 32 (o + x.val) := fun x => by
    rw [Nat.add_comm]; exact (BitVec.ofNat_add x.val o).symm
  refine ⟨i, hi', hmin', BitVec.eq_of_toInt_eq ?_⟩
  rw [← Finset.fold_hom (op' := min) (m := BitVec.toInt) (fun x y => SortNet.toInt_minsi x y), key (o + i.val) (by have := i.isLt; omega)]
  apply le_antisymm
  · rw [Finset.fold_min_le]
    refine Or.inr ⟨i, Finset.mem_univ _, ?_⟩
    rw [if_pos hi', hadd, key _ (by have := i.isLt; omega)]
  · rw [Finset.le_fold_min]
    refine ⟨?_, fun x _ => ?_⟩
    · have := i.isLt
      rw [show (2147483647#32 : BitVec 32).toInt = 2147483647 from rfl]; omega
    · split
      · rename_i hx
        have h1 := Fin.le_def.mp (hmin' x hx)
        rw [hadd, key (o + x.val) (by have := x.isLt; omega)]; omega
      · rw [key N (by omega)]; have := i.isLt; omega

theorem ofBits_top : Ideal.ofBits FTy.f32 2139095040#32 = (⊤ : EReal) := by
  simp [Ideal.ofBits, Ideal.ieee]

theorem cmin_read (T : Vec Ideal S128x512 .f32) (q : Fin 128) :
    cmin T (ix2 q 0) = (Finset.fold min (⊤ : EReal) (fun x => T (ix2 q x)) Finset.univ : EReal) := by
  pointwise [cmin]
  rw [ofBits_top]

theorem cmin_le (T : Vec Ideal S128x512 .f32) (q : Fin 128) (x : Fin 512) : (cmin T (ix2 q 0) : EReal) ≤ T (ix2 q x) := by
  rw [cmin_read, Finset.fold_min_le]
  exact Or.inr ⟨x, Finset.mem_univ _, le_refl _⟩

theorem cmin_mem (T : Vec Ideal S128x512 .f32) (q : Fin 128) (h : (cmin T (ix2 q 0) : EReal) < ⊤) : ∃ x, T (ix2 q x) = cmin T (ix2 q 0) := by
  have h0 := le_refl (cmin T (ix2 q 0) : EReal)
  nth_rw 1 [cmin_read] at h0
  rw [Finset.fold_min_le] at h0
  rcases h0 with h0 | ⟨x, _, hx⟩
  · exact absurd h (not_lt.mpr h0)
  · exact ⟨x, le_antisymm hx (cmin_le T q x)⟩

theorem cfirst_spec (o : ℕ) (ho : o + 512 ≤ 4096) (T : Vec Ideal S128x512 .f32) (q : Fin 128) (h : (cmin T (ix2 q 0) : EReal) < ⊤) :
    ∃ i, T (ix2 q i) = cmin T (ix2 q 0) ∧ (∀ j, T (ix2 q j) = cmin T (ix2 q 0) → i ≤ j) ∧
      cfirst (BitVec.ofNat 32 o) T (ix2 q 0) = BitVec.ofNat 32 (o + i.val) := by
  obtain ⟨i, h1, h2, h3⟩ := fold_first (fun x => T (ix2 q x) = cmin T (ix2 q 0)) o 4096 ho (by omega) (cmin_mem T q h)
  refine ⟨i, h1, h2, ?_⟩
  pointwise [cfirst]
  exact h3

theorem upd_fst (o : BitVec 32) (T : Vec Ideal S128x512 .f32) (s : FVec Ideal S128x1 .f32 × IVec S128x1 32) (q : Fin 128) :
    (upd o T s).1 (ix2 q 0) = if (cmin T (ix2 q 0) : EReal) < s.1 (ix2 q 0) then cmin T (ix2 q 0) else s.1 (ix2 q 0) := by
  pointwise [upd]

theorem upd_snd (o : BitVec 32) (T : Vec Ideal S128x512 .f32) (s : FVec Ideal S128x1 .f32 × IVec S128x1 32) (q : Fin 128) :
    (upd o T s).2 (ix2 q 0) = if (cmin T (ix2 q 0) : EReal) < s.1 (ix2 q 0) then cfirst o T (ix2 q 0) else s.2 (ix2 q 0) := by
  pointwise [upd]

/-- The running least entry `m` and its column `f`, over the first `n` columns. -/
def Seen (a : Fin 4096 → EReal) (n : ℕ) (m : EReal) (f : BitVec 32) : Prop :=
  (∀ j : Fin 4096, j.val < n → m ≤ a j) ∧
    (m = ⊤ ∨ ∃ i : Fin 4096, i.val < n ∧ f = BitVec.ofNat 32 i.val ∧ a i = m ∧ ∀ j : Fin 4096, j.val < n → a j = m → i ≤ j)

theorem seen_zero (a : Fin 4096 → EReal) (q : Fin 128) : Seen a 0 (upd0 (F := Ideal).1 (ix2 q 0)) (upd0 (F := Ideal).2 (ix2 q 0)) := by
  refine ⟨fun j h => absurd h (Nat.not_lt_zero _), Or.inl ?_⟩
  pointwise [upd0]
  exact ofBits_top

theorem seen_upd (A : Vec Ideal S128x4096 .f32) (q : Fin 128) (o : ℕ)
    (h : ∀ a, (![0, o] : Fin 2 → ℕ) a + S128x512.size a ≤ S128x4096.size a) (s : FVec Ideal S128x1 .f32 × IVec S128x1 32)
    (hs : Seen (fun j => A (ix2 q j)) o (s.1 (ix2 q 0)) (s.2 (ix2 q 0))) :
    Seen (fun j => A (ix2 q j)) (o + 512) ((upd (BitVec.ofNat 32 o) (tile o h A) s).1 (ix2 q 0)) ((upd (BitVec.ofNat 32 o) (tile o h A) s).2 (ix2 q 0)) := by
  have ho : o + 512 ≤ 4096 := h 1
  have hr : ∀ x : Fin 512, tile o h A (ix2 q x) = A (ix2 q ⟨o + x.val, by omega⟩) := fun x => tile_read o h A q x _
  generalize tile o h A = T at hr
  rw [upd_fst, upd_snd]
  obtain ⟨hs1, hs2⟩ := hs
  have split : ∀ j : Fin 4096, j.val < o + 512 → ¬ j.val < o → ∃ x : Fin 512, (⟨o + x.val, by omega⟩ : Fin 4096) = j ∧ A (ix2 q j) = T (ix2 q x) :=
    fun j h1 h2 => ⟨⟨j.val - o, by omega⟩, Fin.ext (by show o + (j.val - o) = j.val; omega), by
      rw [hr]; congr 2; exact Fin.ext (by show j.val = o + (j.val - o); omega)⟩
  by_cases hc : (cmin T (ix2 q 0) : EReal) < s.1 (ix2 q 0)
  · rw [if_pos hc, if_pos hc]
    obtain ⟨i, hi, hfst, hf⟩ := cfirst_spec o ho T q (lt_of_lt_of_le hc le_top)
    refine ⟨fun j hj => ?_, Or.inr ⟨⟨o + i.val, by omega⟩, by show o + i.val < o + 512; omega, hf, (hr i).symm.trans hi, fun j hj hja => ?_⟩⟩
    · by_cases hj' : j.val < o
      · exact le_trans (le_of_lt hc) (hs1 j hj')
      · obtain ⟨x, _, hx⟩ := split j hj hj'
        show _ ≤ A (ix2 q j)
        rw [hx]; exact cmin_le T q x
    · by_cases hj' : j.val < o
      · exact absurd (hs1 j hj') (not_le.mpr (lt_of_eq_of_lt hja hc))
      · obtain ⟨x, hx', hx⟩ := split j hj hj'
        have := Fin.le_def.mp (hfst x (hx.symm.trans hja))
        rw [← hx']; exact Fin.le_def.mpr (by show o + i.val ≤ o + x.val; omega)
  · rw [if_neg hc, if_neg hc]
    refine ⟨fun j hj => ?_, ?_⟩
    · by_cases hj' : j.val < o
      · exact hs1 j hj'
      · obtain ⟨x, _, hx⟩ := split j hj hj'
        show _ ≤ A (ix2 q j)
        rw [hx]; exact le_trans (not_lt.mp hc) (cmin_le T q x)
    · rcases hs2 with hs2 | ⟨i, h1, h2, h3, h4⟩
      · exact Or.inl hs2
      · refine Or.inr ⟨i, by omega, h2, h3, fun j hj hja => ?_⟩
        by_cases hj' : j.val < o
        · exact h4 j hj' hja
        · exact Fin.le_def.mpr (by omega)

/-- The column found in a row with an entry below `+∞` is the first one holding the row's least entry. -/
theorem firstOf_spec (A : Vec Ideal S128x4096 .f32) (q : Fin 128) (hlt : ∃ j, (A (ix2 q j) : EReal) < ⊤) :
    ∃ i : Fin 4096, firstOf A (ix2 q 0) = BitVec.ofNat 32 i.val ∧ (∀ j, (A (ix2 q i) : EReal) ≤ A (ix2 q j)) ∧
      ∀ j, (A (ix2 q j) : EReal) = A (ix2 q i) → i ≤ j := by
  have h8 := seen_upd A q 3584 inb_S128x4096_S128x512_0_3584 _ <| seen_upd A q 3072 inb_S128x4096_S128x512_0_3072 _
    <| seen_upd A q 2560 inb_S128x4096_S128x512_0_2560 _ <| seen_upd A q 2048 inb_S128x4096_S128x512_0_2048 _
    <| seen_upd A q 1536 inb_S128x4096_S128x512_0_1536 _ <| seen_upd A q 1024 inb_S128x4096_S128x512_0_1024 _
    <| seen_upd A q 512 inb_S128x4096_S128x512_0_512 _ <| seen_upd A q 0 inb_S128x4096_S128x512_0_0 _ <| seen_zero _ q
  obtain ⟨h1, h2 | ⟨i, _, hf, hi, hj⟩⟩ := h8
  · obtain ⟨j, hlt⟩ := hlt
    exact absurd (lt_of_le_of_lt (h1 j j.isLt) hlt) (by rw [h2]; exact lt_irrefl _)
  · refine ⟨i, hf, fun j => ?_, fun j h => hj j j.isLt (h.trans hi)⟩
    exact le_trans (le_of_eq hi) (h1 j j.isLt)

end Cert.KernelIdeal.Val

end
-- ==== Proof.Rank.lean ====
/- The combinatorics of "the k nearest": the rank of a position in a row of keys, how a row changes when the
   nearest remaining position is taken out, and how a sorted row numbers its positions by rank. -/
module

public import Mathlib.Data.EReal.Basic
public import Mathlib.Data.Fintype.Card
public import Mathlib.Order.Interval.Finset.Fin
public import Mathlib.Algebra.BigOperators.Group.Finset.Basic
public import Mathlib.Algebra.BigOperators.Ring.Finset
public import Mathlib.Tactic.Linarith

@[expose] public section

noncomputable section

namespace Cert.Rank

open Finset

variable {α : Type} [LinearOrder α] {n : ℕ}

/-- Position `i` comes before position `j`: a smaller key, or an equal key further left. -/
def Bef (D : Fin n → α) (i j : Fin n) : Prop := D i < D j ∨ (D i = D j ∧ i < j)

instance (D : Fin n → α) (i j : Fin n) : Decidable (Bef D i j) := by unfold Bef; infer_instance

theorem bef_irrefl (D : Fin n → α) (i : Fin n) : ¬ Bef D i i := by
  rintro (h | ⟨_, h⟩) <;> exact lt_irrefl _ h

theorem bef_trans {D : Fin n → α} {i j k : Fin n} (h : Bef D i j) (h' : Bef D j k) : Bef D i k := by
  rcases h with h | ⟨h, hl⟩ <;> rcases h' with h' | ⟨h', hl'⟩
  · exact .inl (h.trans h')
  · exact .inl (h' ▸ h)
  · exact .inl (h ▸ h')
  · exact .inr ⟨h.trans h', hl.trans hl'⟩

theorem bef_total (D : Fin n → α) {i j : Fin n} (h : i ≠ j) : Bef D i j ∨ Bef D j i := by
  rcases lt_trichotomy (D i) (D j) with h1 | h1 | h1
  · exact .inl (.inl h1)
  · rcases lt_or_gt_of_ne h with h2 | h2
    · exact .inl (.inr ⟨h1, h2⟩)
    · exact .inr (.inr ⟨h1.symm, h2⟩)
  · exact .inr (.inl h1)

/-- How many positions come before `i`. -/
def rk (D : Fin n → α) (i : Fin n) : ℕ := (univ.filter fun j => Bef D j i).card

theorem rk_lt_of_bef {D : Fin n → α} {i j : Fin n} (h : Bef D i j) : rk D i < rk D j := by
  refine card_lt_card ⟨fun k hk => ?_, fun hs => ?_⟩
  · simp only [mem_filter, mem_univ, true_and] at hk ⊢
    exact bef_trans hk h
  · have hi : i ∈ univ.filter fun k => Bef D k i := hs (by simpa using h)
    simp only [mem_filter, mem_univ, true_and] at hi
    exact bef_irrefl D i hi

theorem bef_of_rk_lt {D : Fin n → α} {i j : Fin n} (h : rk D i < rk D j) : Bef D i j := by
  by_contra hn
  by_cases he : i = j
  · subst he; exact lt_irrefl _ h
  · rcases bef_total D he with h1 | h1
    · exact hn h1
    · exact absurd (rk_lt_of_bef h1) (by omega)

theorem rk_injective (D : Fin n → α) : Function.Injective (rk D) := fun i j h => by
  by_contra hn
  rcases bef_total D hn with h1 | h1 <;> have := rk_lt_of_bef h1 <;> omega

theorem rk_lt (D : Fin n → α) (i : Fin n) : rk D i < n := by
  have : rk D i < (univ : Finset (Fin n)).card := by
    refine card_lt_card ⟨filter_subset _ _, fun hs => ?_⟩
    have hi := hs (mem_univ i)
    simp only [mem_filter, mem_univ, true_and] at hi
    exact bef_irrefl D i hi
  simpa using this

/-- Every rank below the row's length is some position's. -/
theorem exists_rk (D : Fin n → α) {k : ℕ} (hk : k < n) : ∃ i, rk D i = k := by
  have hinj : Function.Injective (fun i : Fin n => (⟨rk D i, rk_lt D i⟩ : Fin n)) := fun i j h =>
    rk_injective D (congrArg Fin.val h)
  obtain ⟨i, hi⟩ := (Finite.injective_iff_surjective.mp hinj) ⟨k, hk⟩
  exact ⟨i, congrArg Fin.val hi⟩

/-- Two rows whose keys are ordered alike have the same ranks. -/
theorem rk_congr {β : Type} [LinearOrder β] (D : Fin n → α) (D' : Fin n → β) (h : ∀ i j, D i < D j ↔ D' i < D' j) (i : Fin n) :
    rk D i = rk D' i := by
  unfold rk
  refine congrArg Finset.card (Finset.filter_congr fun j _ => ?_)
  have he : D j = D i ↔ D' j = D' i := by
    constructor <;> intro e
    · exact le_antisymm (not_lt.mp fun hh => by rw [← h] at hh; exact absurd e hh.ne')
        (not_lt.mp fun hh => by rw [← h] at hh; exact absurd e hh.ne)
    · exact le_antisymm (not_lt.mp fun hh => by rw [h] at hh; exact absurd e hh.ne')
        (not_lt.mp fun hh => by rw [h] at hh; exact absurd e hh.ne)
  unfold Bef
  rw [h, he]

/-! ### Taking out the nearest -/

/-- The row after `k` rounds: the `k` nearest positions raised to `+∞`. -/
def cut (D : Fin n → EReal) (k : ℕ) (i : Fin n) : EReal := if rk D i < k then ⊤ else D i

theorem cut_zero (D : Fin n → EReal) : cut D 0 = D := by
  funext i; simp [cut]

/-- The first position of the least remaining key has rank `k`. -/
theorem rk_of_first {D : Fin n → EReal} (hD : ∀ i, D i < ⊤) {k : ℕ} (hk : k < n) {i : Fin n}
    (hle : ∀ j, cut D k i ≤ cut D k j) (hfirst : ∀ j, cut D k j = cut D k i → i ≤ j) : rk D i = k := by
  obtain ⟨o, ho⟩ := exists_rk D hk
  have hco : cut D k o = D o := by simp [cut, ho]
  have hi : ¬ rk D i < k := fun h => by
    have h1 := hle o
    rw [hco, cut, if_pos h] at h1
    exact absurd (hD o) (not_lt.mpr h1)
  have hci : cut D k i = D i := by simp [cut, hi]
  have h1 := hle o
  rw [hco, hci] at h1
  by_contra hne
  have hlt : rk D o < rk D i := by omega
  rcases bef_of_rk_lt hlt with h2 | ⟨h2, h3⟩
  · exact absurd h2 (not_lt.mpr h1)
  · exact absurd h3 (not_lt.mpr (hfirst o (by rw [hco, hci, h2])))

/-- Raising the position of rank `k` gives the next row. -/
theorem cut_succ {D : Fin n → EReal} {k : ℕ} {i : Fin n} (hi : rk D i = k) (j : Fin n) :
    cut D (k + 1) j = if j = i then ⊤ else cut D k j := by
  by_cases h : j = i
  · subst h; simp [cut, hi]
  · have hne : rk D j ≠ k := fun e => h (rk_injective D (e.trans hi.symm))
    rw [if_neg h]; unfold cut
    by_cases h2 : rk D j < k
    · rw [if_pos h2, if_pos (by omega)]
    · rw [if_neg h2, if_neg (by omega)]

/-- The mask after `k` rounds: one at the `k` nearest positions, zero elsewhere. -/
def ind (D : Fin n → EReal) (k : ℕ) (i : Fin n) : EReal := if rk D i < k then 1 else 0

theorem ind_zero (D : Fin n → EReal) (i : Fin n) : ind D 0 i = 0 := by simp [ind]

theorem ind_succ {D : Fin n → EReal} {k : ℕ} {i : Fin n} (hi : rk D i = k) (j : Fin n) :
    ind D (k + 1) j = if j = i then 1 else ind D k j := by
  by_cases h : j = i
  · subst h; simp [ind, hi]
  · have hne : rk D j ≠ k := fun e => h (rk_injective D (e.trans hi.symm))
    rw [if_neg h]; unfold ind
    by_cases h2 : rk D j < k
    · rw [if_pos h2, if_pos (by omega)]
    · rw [if_neg h2, if_neg (by omega)]

/-- In a row of keys below `+∞` with fewer than `n` taken out something is left. -/
theorem cut_exists_lt_top {D : Fin n → EReal} (hD : ∀ i, D i < ⊤) {k : ℕ} (hk : k < n) : ∃ i, cut D k i < ⊤ := by
  obtain ⟨o, ho⟩ := exists_rk D hk
  exact ⟨o, by simp [cut, ho, hD o]⟩

/-! ### A sorted numbering -/

/-- A numbering of the positions along which every earlier one comes before every later one numbers each by its rank. -/
theorem rk_of_sorted {D : Fin n → α} (σ : Fin n → Fin n) (hinj : Function.Injective σ)
    (hs : ∀ p q : Fin n, p < q → Bef D (σ p) (σ q)) (p : Fin n) : rk D (σ p) = p := by
  have hsurj := Finite.injective_iff_surjective.mp hinj
  have he : (univ.filter fun j => Bef D j (σ p)) = (univ.filter fun q : Fin n => q < p).map ⟨σ, hinj⟩ := by
    ext j
    simp only [mem_filter, mem_univ, true_and, mem_map, Function.Embedding.coeFn_mk]
    constructor
    · intro h
      obtain ⟨q, rfl⟩ := hsurj j
      refine ⟨q, ?_, rfl⟩
      rcases lt_trichotomy q p with h1 | h1 | h1
      · exact h1
      · subst h1; exact absurd h (bef_irrefl _ _)
      · exact absurd (bef_trans h (hs _ _ h1)) (bef_irrefl _ _)
    · rintro ⟨q, hq, rfl⟩
      exact hs _ _ hq
  unfold rk
  rw [he, card_map]
  have : (univ.filter fun q : Fin n => q < p) = Finset.Iio p := by ext; simp
  rw [this, Fin.card_Iio]

/-- A sum over the first `k` numbers is the sum over the positions of rank below `k`. -/
theorem sum_first {M : Type} [AddCommMonoid M] {D : Fin n → α} {k : ℕ} (hk : k ≤ n) (σ : Fin k → Fin n)
    (hσ : ∀ p, rk D (σ p) = p) (f : Fin n → M) : ∑ p : Fin k, f (σ p) = ∑ i : Fin n, if rk D i < k then f i else 0 := by
  rw [← Finset.sum_filter]
  refine Finset.sum_bij (fun p _ => σ p) (fun p _ => ?_) (fun p _ q _ h => ?_) (fun i hi => ?_) (fun _ _ => rfl)
  · simp only [mem_filter, mem_univ, true_and]; rw [hσ]; exact p.isLt
  · have := congrArg (rk D) h
    rw [hσ, hσ] at this; exact Fin.ext this
  · simp only [mem_filter, mem_univ, true_and] at hi
    exact ⟨⟨rk D i, hi⟩, mem_univ _, rk_injective D (hσ _)⟩

end Cert.Rank

end
-- ==== Proof.Start.lean ====
/- What the kernel's block computes before, in and after its loop, at the exact values. -/
module

public import proofs.«01_k».proof.Proof.First
public import proofs.«01_k».proof.Proof.Rank

@[expose] public section

set_option maxRecDepth 16384
set_option maxHeartbeats 400000

noncomputable section

namespace Cert.KernelIdeal.Val

open Idealize.ShloMosaic Idealize.ShloMosaic.TcCoe Idealize.ShloMosaic.Tactic
open Idealize.SL.Sem Cert.KernelIdeal.Gen Cert.Rank

/-! ## Before the loop -/

/-- The squared distance from a query row to a training row, less the query's own square. -/
def dist (x : Vec Ideal S128x32 .f32) (T : Vec Ideal S4096x32 .f32) (q : Fin 128) (i : Fin 4096) : EReal :=
  (∑ d : Fin 32, (T (ix2 i d) : EReal) * T (ix2 i d)) - 2 * ∑ d : Fin 32, (x (ix2 q d) : EReal) * T (ix2 i d)

theorem ofBits_two : Ideal.ofBits FTy.f32 1073741824#32 = (2 : EReal) := by
  have h : Ideal.ofBits FTy.f32 1073741824#32 = ((2 : ℝ) : EReal) := by
    simp [Ideal.ofBits, Ideal.ieee]; rw [← EReal.coe_mul]; norm_num
  rw [h]; rfl

theorem ofBits_eighth : Ideal.ofBits FTy.f32 1040187392#32 = ((1 / 8 : ℝ) : EReal) := by
  simp [Ideal.ofBits, Ideal.ieee]; rw [← EReal.coe_mul]; norm_num

theorem pay45_read (x : Vec Ideal S128x32 .f32) (T : Vec Ideal S512x32 .f32) (q : Fin 128) (i : Fin 512) :
    k0_pay45 x T (ix2 q i)
      = ((∑ d : Fin 32, (T (ix2 i d) : EReal) * T (ix2 i d)) - 2 * ∑ d : Fin 32, (x (ix2 q d) : EReal) * T (ix2 i d) : EReal) := by
  pointwise [k0_pay45, k0_pay44]
  rw [ofBits_two]

/-- A chunk of rows of the training array. -/
abbrev rows (o : ℕ) (h : ∀ a, (![o, 0] : Fin 2 → ℕ) a + S512x32.size a ≤ S4096x32.size a) (T : Vec Ideal S4096x32 .f32) : Vec Ideal S512x32 .f32 :=
  View.ld T (Rect.unit (s := S4096x32) ![o, 0] S512x32.size h)

theorem rows_read (o : ℕ) (h : ∀ a, (![o, 0] : Fin 2 → ℕ) a + S512x32.size a ≤ S4096x32.size a) (T : Vec Ideal S4096x32 .f32)
    (i : Fin 512) (d : Fin 32) (hb : o + i.val < 4096) : rows o h T (ix2 i d) = T (ix2 ⟨o + i.val, hb⟩ d) := by
  have he : (Rect.unit (s := S4096x32) ![o, 0] S512x32.size h).emb (ix2 i d) = ix2 ⟨o + i.val, hb⟩ d := by
    refine Rect.emb_eq_of_coords _ _ _ fun a => ?_
    fin_cases a
    · show o + i.val = o + 1 * i.val; omega
    · show d.val = 0 + 1 * d.val; omega
  rw [← he]; rfl

/-- What is stored into the chunk at `o` before the loop. -/
theorem start_piece (o : ℕ) (h : ∀ a, (![0, o] : Fin 2 → ℕ) a + S128x512.size a ≤ S128x4096.size a)
    (h' : ∀ a, (![o, 0] : Fin 2 → ℕ) a + S512x32.size a ≤ S4096x32.size a) (x : Vec Ideal S128x32 .f32) (T : Vec Ideal S4096x32 .f32)
    (y : S128x512.Idx) : k0_pay45 x (rows o h' T) y
      = (fun j : S128x4096.Idx => (dist x T (j 0) (j 1) : EReal)) ((Rect.unit (s := S128x4096) ![0, o] S128x512.size h).emb y) := by
  idx_vars y
  have hb : o + y1.val < 4096 := by have h1 : o + 512 ≤ 4096 := h 1; omega
  rw [tile_emb o h y0 y1 hb, pay45_read]
  show _ = dist x T y0 ⟨o + y1.val, hb⟩
  unfold dist
  simp only [rows_read o h' T y1 _ hb]

theorem zero_piece (y : S128x512.Idx) : k0_pay46 (F := Ideal) y = (0 : EReal) := by
  idx_vars y
  pointwise [k0_pay46]

/-! ## The loop -/

theorem cmpi_eq (a b : BitVec 32) : IntOp.cmpi .eq a b = if a = b then 1#1 else 0#1 := by
  show BitVec.ofBool (a == b) = _
  by_cases h : a = b
  · subst h; simp
  · rw [if_neg h, beq_eq_false_iff_ne.mpr h]; rfl

theorem putFirst_read (w : Ideal .f32) (f : IVec S128x1 32) (A : Vec Ideal S128x4096 .f32) (q : Fin 128) (i j : Fin 4096)
    (hf : f (ix2 q 0) = BitVec.ofNat 32 i.val) : putFirst w f A (ix2 q j) = if j = i then w else A (ix2 q j) := by
  have hw : ((BitVec.ofNat 32 j.val : BitVec 32) = BitVec.ofNat 32 i.val) ↔ j = i := by
    rw [Fin.ext_iff]
    constructor
    · intro h
      have := congrArg BitVec.toNat h
      rw [BitVec.toNat_ofNat, BitVec.toNat_ofNat] at this
      omega
    · intro h; rw [h]
  show Scalar.select (Scalar.cmpi .eq (BitVec.ofNat 32 j.val) (f (ix2 q 0))) w (A (ix2 q j)) = _
  rw [hf]
  show (if IntOp.cmpi .eq (BitVec.ofNat 32 j.val) (BitVec.ofNat 32 i.val) = 1#1 then w else A (ix2 q j)) = _
  rw [cmpi_eq]
  by_cases h : j = i
  · rw [if_pos h, if_pos (hw.mpr h), if_pos rfl]
  · rw [if_neg h, if_neg (fun hh => h (hw.mp hh)), if_neg (by decide)]

/-- One trip on whole arrays: the next nearest position leaves the distances and enters the mask. -/
theorem round_step (D : Fin 128 → Fin 4096 → EReal) (hD : ∀ q i, D q i < ⊤) (k : ℕ) (hk : k < 4096)
    (A M : Vec Ideal S128x4096 .f32) (hA : ∀ q i, A (ix2 q i) = cut (D q) k i) (hM : ∀ q i, M (ix2 q i) = ind (D q) k i)
    (q : Fin 128) (j : Fin 4096) :
    putFirst (F := Ideal) (Scalar.ofBits .f32 0x7F800000#32) (firstOf A) A (ix2 q j) = cut (D q) (k + 1) j
      ∧ putFirst (F := Ideal) (Scalar.ofBits .f32 0x3F800000#32) (firstOf A) M (ix2 q j) = ind (D q) (k + 1) j := by
  obtain ⟨i, hi, hle, hfst⟩ := firstOf_spec A q (by
    obtain ⟨i, hi⟩ := cut_exists_lt_top (hD q) hk
    exact ⟨i, by rw [hA]; exact hi⟩)
  have hrk : rk (D q) i = k := rk_of_first (hD q) hk
    (fun j => by have := hle j; rw [hA, hA] at this; exact this) (fun j h => hfst j (by rw [hA, hA]; exact h))
  rw [putFirst_read _ _ _ q i j hi, putFirst_read _ _ _ q i j hi, cut_succ hrk, ind_succ hrk, hA, hM]
  constructor
  · by_cases h : j = i
    · rw [if_pos h, if_pos h]; exact ofBits_top
    · rw [if_neg h, if_neg h]
  · by_cases h : j = i
    · rw [if_pos h, if_pos h]; exact Ideal.ofBits_one_f32
    · rw [if_neg h, if_neg h]

section
variable (𝒱 : Variants) (c : Dev nD) (bd : Option 𝒱.V) (i : grid0.Coords)
  (arg1 : Memref sig .tc .vmem S128x32 .f32) (harg1 : arg1.IsWhole) (arg2 : Memref sig .tc .vmem S4096x32 .f32) (harg2 : arg2.IsWhole)
  (arg3 : Memref sig .tc .vmem S4096x16 .f32) (harg3 : arg3.IsWhole) (arg4 : Memref sig .tc .vmem S128x256 .f32) (harg4 : arg4.IsWhole)
  (arg5 : Memref sig .tc .vmem S128x4096 .f32) (harg5 : arg5.IsWhole) (arg6 : Memref sig .tc .vmem S128x4096 .f32) (harg6 : arg6.IsWhole)
  (v0 : Vec Ideal S128x32 .f32) (v1 : FVec Ideal S1x32 .f32) (v97 : FVec Ideal S128x512 .f32) (v98 : FVec Ideal S128x512 .f32)
  (G5 : BufTy.Contents (Elt Ideal) arg5.view.ty) (G6 : BufTy.Contents (Elt Ideal) arg6.view.ty)

/-- Before trip `k` the `k` nearest positions have left the distances and entered the mask. -/
theorem loop_read (D : Fin 128 → Fin 4096 → EReal) (hD : ∀ q i, D q i < ⊤)
    (h5 : ∀ q j, arg5.view.read (Elt Ideal) G5 (ix2 q j) = D q j) (h6 : ∀ q j, arg6.view.read (Elt Ideal) G6 (ix2 q j) = (0 : EReal))
    (k : ℕ) (hk : k ≤ k0_t1_loop.trips) :
    (∀ q j, arg5.view.read (Elt Ideal) (arg5.view.writes (Elt Ideal) G5 (pb_k0_t1 (F := Ideal) 𝒱 c bd i arg1 harg1 arg2 harg2 arg3 harg3 arg4 harg4 arg5 harg5 arg6 harg6 v0 v1 v97 v98 G5 G6 k).1) (ix2 q j) = cut (D q) k j)
    ∧ (∀ q j, arg6.view.read (Elt Ideal) (arg6.view.writes (Elt Ideal) G6 (pb_k0_t1 (F := Ideal) 𝒱 c bd i arg1 harg1 arg2 harg2 arg3 harg3 arg4 harg4 arg5 harg5 arg6 harg6 v0 v1 v97 v98 G5 G6 k).2) (ix2 q j) = ind (D q) k j) := by
  induction k with
  | zero =>
    refine ⟨fun q j => ?_, fun q j => ?_⟩
    · rw [cut_zero]; exact h5 q j
    · rw [ind_zero]; exact h6 q j
  | succ k ih =>
    obtain ⟨ih5, ih6⟩ := ih (by omega)
    have h := pb_k0_t1_succ (F := Ideal) 𝒱 c bd i arg1 harg1 arg2 harg2 arg3 harg3 arg4 harg4 arg5 harg5 arg6 harg6 v0 v1 v97 v98 G5 G6 ⟨k, by omega⟩
    rw [h]
    dsimp only
    rw [View.writes_append, View.writes_append, trip_d2, trip_mask]
    have hk' : k < 4096 := by
      have : k0_t1_loop.trips = 8 := by decide +kernel
      omega
    have hs := round_step D hD k hk' _ _ ih5 ih6
    exact ⟨fun q j => (hs q j).1, fun q j => (hs q j).2⟩

end

/-! ## After the loop -/

theorem pay71_read (M : Vec Ideal S128x512 .f32) (Y : Vec Ideal S512x16 .f32) (q : Fin 128) (c : Fin 16) :
    k0_pay71 M Y (ix2 q c) = (∑ i : Fin 512, (M (ix2 q i) : EReal) * Y (ix2 i c) : EReal) := by
  pointwise [k0_pay71]

theorem pay69_read (M : Vec Ideal S128x512 .f32) (Y : Vec Ideal S512x16 .f32) (q : Fin 128) (c : Fin 16) :
    k0_pay69 M Y (ix2 q c) = (∑ i : Fin 512, (M (ix2 q i) : EReal) * Y (ix2 i c) : EReal) := by
  pointwise [k0_pay69]

theorem sitofp_cmp (a b : BitVec 32) : (FloatOps.sitofp (F := Ideal) .f32 (BitVec.setWidth 32 (IntOp.cmpi .eq a b)) : EReal) = if a = b then 1 else 0 := by
  rw [cmpi_eq]
  by_cases h : a = b
  · rw [if_pos h, if_pos h]
    show (((BitVec.setWidth 32 1#1).toInt : ℝ) : EReal) = 1
    simp
  · rw [if_neg h, if_neg h]
    show (((BitVec.setWidth 32 0#1).toInt : ℝ) : EReal) = 0
    simp

theorem lane0 : ∀ a b x : Fin 16, (BitVec.ofNat 32 (16 * a.val + b.val) : BitVec 32) = IntOp.muli (BitVec.ofNat 32 x.val) 16#32 ↔ (x = a ∧ b = 0) := by
  decide +kernel

theorem lane1 : ∀ a b x : Fin 16, (BitVec.ofNat 32 (16 * a.val + b.val) : BitVec 32) = IntOp.addi (IntOp.muli (BitVec.ofNat 32 x.val) 16#32) 1#32 ↔ (x = a ∧ b = 1) := by
  decide +kernel

/-- The class matrix laid out over `256` lanes: lane `16 a + b` holds entry `(a, b)`. -/
theorem pay1_read (M N : FVec Ideal S128x16 .f32) (q : Fin 128) (a b : Fin 16) (hl : 16 * a.val + b.val < 256) :
    k0_pay1 M N (ix2 q ⟨16 * a.val + b.val, hl⟩)
      = (if b = 0 then 1 - ((M (ix2 q a) : EReal) + N (ix2 q a)) * ((1 / 8 : ℝ) : EReal)
          else if b = 1 then ((M (ix2 q a) : EReal) + N (ix2 q a)) * ((1 / 8 : ℝ) : EReal) else 0 : EReal) := by
  pointwise [k0_pay1]
  simp only [sitofp_cmp, lane0, lane1, ofBits_eighth, ite_and, mul_ite, mul_one, mul_zero, Finset.sum_ite_eq', Finset.mem_univ, if_true]
  by_cases h0 : b = 0
  · subst h0; simp
  · by_cases h1 : b = 1
    · subst h1; simp
    · simp [h0, h1]

end Cert.KernelIdeal.Val

end
-- ==== Proof.Block.lean ====
/- What one grid step of the kernel leaves in its output block, at the exact values. -/
module

public import proofs.«01_k».proof.Proof.Start

@[expose] public section

set_option maxRecDepth 16384
set_option maxHeartbeats 400000

noncomputable section

namespace Cert.KernelIdeal.Val

open Idealize.ShloMosaic Idealize.ShloMosaic.TcCoe Idealize.ShloMosaic.Tactic
open Idealize.SL.Sem Cert.KernelIdeal.Gen Cert.Rank

/-! ## The two scratch arrays as the loop finds them -/

/-- The chunks of distances written before the loop, last first. -/
def distPieces (x : Vec Ideal S128x32 .f32) (T : Vec Ideal S4096x32 .f32) : List (View.Piece (Elt Ideal) S128x4096 .f32) :=
  [⟨Rect.unit ![0, 3584] ![128, 512] inb_S128x4096_S128x512_0_3584, k0_pay62 x k0_pay44 (rows 3584 inb_S4096x32_S512x32_3584_0 T)⟩,
    ⟨Rect.unit ![0, 3072] ![128, 512] inb_S128x4096_S128x512_0_3072, k0_pay60 (k0_pay58 x (rows 3072 inb_S4096x32_S512x32_3072_0 T)) (k0_pay59 k0_pay44 (rows 3072 inb_S4096x32_S512x32_3072_0 T))⟩,
    ⟨Rect.unit ![0, 2560] ![128, 512] inb_S128x4096_S128x512_0_2560, k0_pay56 x k0_pay44 (rows 2560 inb_S4096x32_S512x32_2560_0 T)⟩,
    ⟨Rect.unit ![0, 2048] ![128, 512] inb_S128x4096_S128x512_0_2048, k0_pay54 x (rows 2048 inb_S4096x32_S512x32_2048_0 T) (k0_pay53 k0_pay44 (rows 2048 inb_S4096x32_S512x32_2048_0 T))⟩,
    ⟨Rect.unit ![0, 1536] ![128, 512] inb_S128x4096_S128x512_0_1536, k0_pay51 x k0_pay44 (rows 1536 inb_S4096x32_S512x32_1536_0 T)⟩,
    ⟨Rect.unit ![0, 1024] ![128, 512] inb_S128x4096_S128x512_0_1024, k0_pay49 x k0_pay44 (rows 1024 inb_S4096x32_S512x32_1024_0 T)⟩,
    ⟨Rect.unit ![0, 512] ![128, 512] inb_S128x4096_S128x512_0_512, k0_pay47 x (rows 512 inb_S4096x32_S512x32_512_0 T)⟩,
    ⟨Rect.unit ![0, 0] ![128, 512] inb_S128x4096_S128x512_0_0, k0_pay45 x (rows 0 inb_S4096x32_S512x32_0_0 T)⟩]

/-- The chunks of zeros written before the loop, last first. -/
def zeroPieces : List (View.Piece (Elt Ideal) S128x4096 .f32) :=
  [⟨Rect.unit ![0, 3584] ![128, 512] inb_S128x4096_S128x512_0_3584, k0_pay63 (F := Ideal)⟩,
    ⟨Rect.unit ![0, 3072] ![128, 512] inb_S128x4096_S128x512_0_3072, k0_pay61 (F := Ideal)⟩,
    ⟨Rect.unit ![0, 2560] ![128, 512] inb_S128x4096_S128x512_0_2560, k0_pay57 (F := Ideal)⟩,
    ⟨Rect.unit ![0, 2048] ![128, 512] inb_S128x4096_S128x512_0_2048, k0_pay55 (F := Ideal)⟩,
    ⟨Rect.unit ![0, 1536] ![128, 512] inb_S128x4096_S128x512_0_1536, k0_pay52 (F := Ideal)⟩,
    ⟨Rect.unit ![0, 1024] ![128, 512] inb_S128x4096_S128x512_0_1024, k0_pay50 (F := Ideal)⟩,
    ⟨Rect.unit ![0, 512] ![128, 512] inb_S128x4096_S128x512_0_512, k0_pay48 (F := Ideal)⟩,
    ⟨Rect.unit ![0, 0] ![128, 512] inb_S128x4096_S128x512_0_0, k0_pay46 (F := Ideal)⟩]

theorem dist_start (x : Vec Ideal S128x32 .f32) (T : Vec Ideal S4096x32 .f32) (q : Fin 128) (j : Fin 4096) :
    (View.whole cc0_scratch0).read (Elt Ideal) ((View.whole cc0_scratch0).writes (Elt Ideal) (View.whole cc0_scratch0).junk (distPieces x T)) (ix2 q j)
      = dist x T q j := by
  refine View.read_writes_apply_of_pieces (Val := Elt Ideal) (View.whole cc0_scratch0) _ (fun j : S128x4096.Idx => (dist x T (j 0) (j 1) : EReal)) _ ?_ _ ?_
  · apply View.PiecesOf.mem (Val := Elt Ideal) (s := S128x4096) (e := .f32) (G := fun j : S128x4096.Idx => (dist x T (j 0) (j 1) : EReal))
    unfold distPieces
    refine ⟨fun y => ?_, fun y => ?_, fun y => ?_, fun y => ?_, fun y => ?_, fun y => ?_, fun y => ?_, fun y => ?_, trivial⟩
    · dsimp only at y ⊢; exact start_piece 3584 inb_S128x4096_S128x512_0_3584 inb_S4096x32_S512x32_3584_0 x T y
    · dsimp only at y ⊢; exact start_piece 3072 inb_S128x4096_S128x512_0_3072 inb_S4096x32_S512x32_3072_0 x T y
    · dsimp only at y ⊢; exact start_piece 2560 inb_S128x4096_S128x512_0_2560 inb_S4096x32_S512x32_2560_0 x T y
    · dsimp only at y ⊢; exact start_piece 2048 inb_S128x4096_S128x512_0_2048 inb_S4096x32_S512x32_2048_0 x T y
    · dsimp only at y ⊢; exact start_piece 1536 inb_S128x4096_S128x512_0_1536 inb_S4096x32_S512x32_1536_0 x T y
    · dsimp only at y ⊢; exact start_piece 1024 inb_S128x4096_S128x512_0_1024 inb_S4096x32_S512x32_1024_0 x T y
    · dsimp only at y ⊢; exact start_piece 512 inb_S128x4096_S128x512_0_512 inb_S4096x32_S512x32_512_0 x T y
    · dsimp only at y ⊢; exact start_piece 0 inb_S128x4096_S128x512_0_0 inb_S4096x32_S512x32_0_0 x T y
  · exact View.cover_of_tiled (Val := Elt Ideal) (s := S128x4096) (e := .f32) _ ![128, 512] rfl _

theorem zero_start (q : Fin 128) (j : Fin 4096) :
    (View.whole cc0_scratch1).read (Elt Ideal) ((View.whole cc0_scratch1).writes (Elt Ideal) (View.whole cc0_scratch1).junk zeroPieces) (ix2 q j)
      = (0 : EReal) := by
  refine View.read_writes_apply_of_pieces (Val := Elt Ideal) (View.whole cc0_scratch1) _ (fun _ : S128x4096.Idx => (0 : EReal)) _ ?_ _ ?_
  · apply View.PiecesOf.mem (Val := Elt Ideal) (s := S128x4096) (e := .f32) (G := fun _ : S128x4096.Idx => (0 : EReal))
    unfold zeroPieces
    refine ⟨fun y => ?_, fun y => ?_, fun y => ?_, fun y => ?_, fun y => ?_, fun y => ?_, fun y => ?_, fun y => ?_, trivial⟩ <;>
      (dsimp only at y ⊢; exact zero_piece y)
  · exact View.cover_of_tiled (Val := Elt Ideal) (s := S128x4096) (e := .f32) _ ![128, 512] rfl _

/-! ## The block -/

/-- A chunk of rows of the label array. -/
abbrev yrows (o : ℕ) (h : ∀ a, (![o, 0] : Fin 2 → ℕ) a + S512x16.size a ≤ S4096x16.size a) (Y : Vec Ideal S4096x16 .f32) : Vec Ideal S512x16 .f32 :=
  View.ld Y (Rect.unit (s := S4096x16) ![o, 0] S512x16.size h)

theorem yrows_read (o : ℕ) (h : ∀ a, (![o, 0] : Fin 2 → ℕ) a + S512x16.size a ≤ S4096x16.size a) (Y : Vec Ideal S4096x16 .f32)
    (i : Fin 512) (d : Fin 16) (hb : o + i.val < 4096) : yrows o h Y (ix2 i d) = Y (ix2 ⟨o + i.val, hb⟩ d) := by
  have he : (Rect.unit (s := S4096x16) ![o, 0] S512x16.size h).emb (ix2 i d) = ix2 ⟨o + i.val, hb⟩ d := by
    refine Rect.emb_eq_of_coords _ _ _ fun a => ?_
    fin_cases a
    · show o + i.val = o + 1 * i.val; omega
    · show d.val = 0 + 1 * d.val; omega
  rw [← he]; rfl

/-- What the block is, given the mask the loop leaves and the labels. -/
def outOf (M : Vec Ideal S128x4096 .f32) (Y : Vec Ideal S4096x16 .f32) : FVec Ideal S128x256 .f32 :=
  k0_pay1 (k0_pay70 (k0_pay69 (tile 0 inb_S128x4096_S128x512_0_0 M) (yrows 0 inb_S4096x16_S512x16_0_0 Y)) (tile 512 inb_S128x4096_S128x512_0_512 M) (yrows 512 inb_S4096x16_S512x16_512_0 Y) (tile 1024 inb_S128x4096_S128x512_0_1024 M) (yrows 1024 inb_S4096x16_S512x16_1024_0 Y) (tile 1536 inb_S128x4096_S128x512_0_1536 M) (yrows 1536 inb_S4096x16_S512x16_1536_0 Y) (tile 2048 inb_S128x4096_S128x512_0_2048 M) (yrows 2048 inb_S4096x16_S512x16_2048_0 Y) (tile 2560 inb_S128x4096_S128x512_0_2560 M) (yrows 2560 inb_S4096x16_S512x16_2560_0 Y) (tile 3072 inb_S128x4096_S128x512_0_3072 M) (yrows 3072 inb_S4096x16_S512x16_3072_0 Y)) (k0_pay71 (tile 3584 inb_S128x4096_S128x512_0_3584 M) (yrows 3584 inb_S4096x16_S512x16_3584_0 Y))

variable (m : (ℓ : Loc nD τ sig) → Buf (Elt Ideal) ℓ) (c : Dev nD) (t : Fin grid0.N)

/-- The mask as the loop leaves it. -/
def maskAfter : Vec Ideal S128x4096 .f32 :=
  (View.whole cc0_scratch1).read (Elt Ideal) ((View.whole cc0_scratch1).writes (Elt Ideal) (View.whole cc0_scratch1).junk
    ((pb_k0_t1 (F := Ideal) Variants.none c none (grid0.coords t) (ms0_0 t) (hs0_0 t) (ms0_1 t) (hs0_1 t) (ms0_2 t) (hs0_2 t) (ms0_3 t) (hs0_3 t)
      scM0_0 (Memref.isWhole_whole _) scM0_1 (Memref.isWhole_whole _) (iblk m c 0 t) k0_pay44
      (k0_pay58 (iblk m c 0 t) (rows 3072 inb_S4096x32_S512x32_3072_0 (iblk m c 1 t)))
      (k0_pay59 k0_pay44 (rows 3072 inb_S4096x32_S512x32_3072_0 (iblk m c 1 t)))
      ((View.whole cc0_scratch0).writes (Elt Ideal) (View.whole cc0_scratch0).junk (distPieces (iblk m c 0 t) (iblk m c 1 t)))
      ((View.whole cc0_scratch1).writes (Elt Ideal) (View.whole cc0_scratch1).junk zeroPieces)
      (Scf.trips 0#32 (Scalar.addi 0#32 8#32) 1#32)).2 ++ zeroPieces))

theorem block_eq : outsAt0 (F := Ideal) m c t = outOf (maskAfter m c t) (iblk m c 2 t) := by
  generalize hG : outOf (maskAfter m c t) (iblk m c 2 t) = G
  unfold outsAt0
  frame_out
  have h : ∀ (L : List (View.Piece (Elt Ideal) S128x4096 .f32)) (r : Rect S128x4096), (View.whole cc0_scratch1).readCov L r.toLoadRect
      = View.ld ((View.whole cc0_scratch1).read (Elt Ideal) ((View.whole cc0_scratch1).writes (Elt Ideal) (View.whole cc0_scratch1).junk L)) r :=
    fun _ _ => View.readAt_eq_ld _ _ _
  simp only [h]
  rw [← hG]
  unfold outOf maskAfter distPieces zeroPieces
  dsimp only [tile, rows, yrows]
  rfl

theorem mask_read (hD : ∀ q i, dist (iblk m c 0 t) (iblk m c 1 t) q i < ⊤) (q : Fin 128) (j : Fin 4096) :
    maskAfter m c t (ix2 q j) = ind (dist (iblk m c 0 t) (iblk m c 1 t) q) 8 j := by
  unfold maskAfter
  rw [View.writes_append]
  have hk : Scf.trips 0#32 (Scalar.addi 0#32 8#32) 1#32 = 8 := by decide +kernel
  have hk' : k0_t1_loop.trips = 8 := by decide +kernel
  rw [hk]
  exact (loop_read Variants.none c none (grid0.coords t) (ms0_0 t) (hs0_0 t) (ms0_1 t) (hs0_1 t) (ms0_2 t) (hs0_2 t) (ms0_3 t) (hs0_3 t)
      scM0_0 (Memref.isWhole_whole _) scM0_1 (Memref.isWhole_whole _) _ _ _ _ _ _ _ hD
      (dist_start (iblk m c 0 t) (iblk m c 1 t)) zero_start 8 (by omega)).2 q j

omit m c t in
/-- A sum over all positions, chunk by chunk. -/
theorem sum_chunks (f : Fin 4096 → EReal) : ∑ i : Fin 4096, f i
    = (∑ x : Fin 512, f ⟨0 + x.val, by omega⟩) + (∑ x : Fin 512, f ⟨512 + x.val, by omega⟩) + (∑ x : Fin 512, f ⟨1024 + x.val, by omega⟩)
      + (∑ x : Fin 512, f ⟨1536 + x.val, by omega⟩) + (∑ x : Fin 512, f ⟨2048 + x.val, by omega⟩) + (∑ x : Fin 512, f ⟨2560 + x.val, by omega⟩)
      + (∑ x : Fin 512, f ⟨3072 + x.val, by omega⟩) + (∑ x : Fin 512, f ⟨3584 + x.val, by omega⟩) := by
  rw [← Equiv.sum_comp (finProdFinEquiv (m := 8) (n := 512)) (fun i => f i), Fintype.sum_prod_type, Fin.sum_univ_eight]
  have h : ∀ (k : Fin 8) (x : Fin 512) (o : ℕ) (ho : o = 512 * k.val) (hb : o + x.val < 4096), f (finProdFinEquiv (k, x)) = f ⟨o + x.val, hb⟩ :=
    fun k x o ho hb => congrArg f (Fin.ext (by show x.val + 512 * k.val = o + x.val; omega))
  refine congrArg₂ _ (congrArg₂ _ (congrArg₂ _ (congrArg₂ _ (congrArg₂ _ (congrArg₂ _ (congrArg₂ _ ?_ ?_) ?_) ?_) ?_) ?_) ?_) ?_ <;>
    exact Finset.sum_congr rfl fun x _ => h _ x _ rfl _

omit m c t in
theorem pay70_read (A : FVec Ideal S128x16 .f32) (M1 : Vec Ideal S128x512 .f32) (Y1 : Vec Ideal S512x16 .f32) (M2 : Vec Ideal S128x512 .f32) (Y2 : Vec Ideal S512x16 .f32)
    (M3 : Vec Ideal S128x512 .f32) (Y3 : Vec Ideal S512x16 .f32) (M4 : Vec Ideal S128x512 .f32) (Y4 : Vec Ideal S512x16 .f32)
    (M5 : Vec Ideal S128x512 .f32) (Y5 : Vec Ideal S512x16 .f32) (M6 : Vec Ideal S128x512 .f32) (Y6 : Vec Ideal S512x16 .f32) (q : Fin 128) (a : Fin 16) :
    k0_pay70 A M1 Y1 M2 Y2 M3 Y3 M4 Y4 M5 Y5 M6 Y6 (ix2 q a)
      = (A (ix2 q a) + (∑ i : Fin 512, (M1 (ix2 q i) : EReal) * Y1 (ix2 i a)) + (∑ i : Fin 512, (M2 (ix2 q i) : EReal) * Y2 (ix2 i a))
        + (∑ i : Fin 512, (M3 (ix2 q i) : EReal) * Y3 (ix2 i a)) + (∑ i : Fin 512, (M4 (ix2 q i) : EReal) * Y4 (ix2 i a))
        + (∑ i : Fin 512, (M5 (ix2 q i) : EReal) * Y5 (ix2 i a)) + (∑ i : Fin 512, (M6 (ix2 q i) : EReal) * Y6 (ix2 i a)) : EReal) := by
  pointwise [k0_pay70]

omit m c t in
/-- The block's entries: the share of a class among the nearest positions, laid out over the lanes. -/
theorem out_read (M : Vec Ideal S128x4096 .f32) (Y : Vec Ideal S4096x16 .f32) (q : Fin 128) (a b : Fin 16) (hl : 16 * a.val + b.val < 256) :
    outOf M Y (ix2 q ⟨16 * a.val + b.val, hl⟩)
      = (if b = 0 then 1 - (∑ i : Fin 4096, (M (ix2 q i) : EReal) * Y (ix2 i a)) * ((1 / 8 : ℝ) : EReal)
          else if b = 1 then (∑ i : Fin 4096, (M (ix2 q i) : EReal) * Y (ix2 i a)) * ((1 / 8 : ℝ) : EReal) else 0 : EReal) := by
  unfold outOf
  rw [pay1_read, pay70_read, pay71_read, pay69_read, sum_chunks]
  have hm : ∀ (o : ℕ) (h : ∀ a, (![0, o] : Fin 2 → ℕ) a + S128x512.size a ≤ S128x4096.size a) (x : Fin 512),
      tile o h M (ix2 q x) = M (ix2 q ⟨o + x.val, by have h1 : o + 512 ≤ 4096 := h 1; omega⟩) := fun o h x => tile_read o h M q x _
  have hy : ∀ (o : ℕ) (h : ∀ a, (![o, 0] : Fin 2 → ℕ) a + S512x16.size a ≤ S4096x16.size a) (x : Fin 512),
      yrows o h Y (ix2 x a) = Y (ix2 ⟨o + x.val, by have h1 : o + 512 ≤ 4096 := h 0; omega⟩ a) := fun o h x => yrows_read o h Y x a _
  simp only [hm, hy]

end Cert.KernelIdeal.Val

end
-- ==== Proof.Array.lean ====
/- The kernel's result array, at the exact values. -/
module

public import proofs.«01_k».proof.Proof.Block

@[expose] public section

set_option maxRecDepth 16384
set_option maxHeartbeats 400000

noncomputable section

namespace Cert.KernelIdeal.Val

open Idealize.ShloMosaic Idealize.ShloMosaic.TcCoe Idealize.ShloMosaic.Tactic
open Idealize.SL.Sem Cert.KernelIdeal.Gen Cert.Rank

variable (m : (ℓ : Loc nD τ sig) → Buf (Elt Ideal) ℓ) (c : Dev nD)

/-! ## The result, told over the argument arrays -/

/-- The squared distance from query row `q` to training row `i`, less the query's own square. -/
def farness (X : Vec Ideal S512x32 .f32) (T : Vec Ideal S4096x32 .f32) (q : Fin 512) (i : Fin 4096) : EReal :=
  (∑ d : Fin 32, (T (ix2 i d) : EReal) * T (ix2 i d)) - 2 * ∑ d : Fin 32, (X (ix2 q d) : EReal) * T (ix2 i d)

/-- The sum of the labels of class `a` over the eight nearest training rows, divided by eight. -/
def share (X : Vec Ideal S512x32 .f32) (T : Vec Ideal S4096x32 .f32) (Y : Vec Ideal S4096x16 .f32) (q : Fin 512) (a : Fin 16) : EReal :=
  (∑ i : Fin 4096, ind (farness X T q) 8 i * (Y (ix2 i a) : EReal)) * ((1 / 8 : ℝ) : EReal)

/-- Entry `(q, a, b)` of the result. -/
def entry (X : Vec Ideal S512x32 .f32) (T : Vec Ideal S4096x32 .f32) (Y : Vec Ideal S4096x16 .f32) (q : Fin 512) (a b : Fin 16) : EReal :=
  if b = 0 then 1 - share X T Y q a else if b = 1 then share X T Y q a else 0

/-- The result before its last reshape: lane `16 a + b` holds entry `(a, b)`. -/
def laid (X : Vec Ideal S512x32 .f32) (T : Vec Ideal S4096x32 .f32) (Y : Vec Ideal S4096x16 .f32) : Vec Ideal S512x256 .f32 := fun j =>
  entry X T Y (j 0) ⟨(j 1).val / 16, by have h : (j 1).val < 256 := (j 1).isLt; omega⟩ ⟨(j 1).val % 16, Nat.mod_lt _ (by decide)⟩

theorem laid_read (X : Vec Ideal S512x32 .f32) (T : Vec Ideal S4096x32 .f32) (Y : Vec Ideal S4096x16 .f32) (q : Fin 512) (a b : Fin 16)
    (hl : 16 * a.val + b.val < 256) : laid X T Y (ix2 q ⟨16 * a.val + b.val, hl⟩) = entry X T Y q a b := by
  have ha : (⟨(16 * a.val + b.val) / 16, by omega⟩ : Fin 16) = a := Fin.ext (by show (16 * a.val + b.val) / 16 = a.val; omega)
  have hb : (⟨(16 * a.val + b.val) % 16, Nat.mod_lt _ (by decide)⟩ : Fin 16) = b := Fin.ext (by show (16 * a.val + b.val) % 16 = b.val; omega)
  show entry X T Y q ⟨(16 * a.val + b.val) / 16, by omega⟩ ⟨(16 * a.val + b.val) % 16, Nat.mod_lt _ (by decide)⟩ = _
  rw [ha, hb]

/-! ## The blocks are parts of the argument arrays -/

theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

variable (t : Fin grid0.N)

theorem tlt (t : Fin grid0.N) : t.val < 4 := lt_of_lt_of_eq t.isLt (by decide)

theorem blk0 (q : Fin 128) (d : Fin 32) : (iblk m c 0 t : Vec Ideal S128x32 .f32) (ix2 q d)
    = (m ((c : Thread nD τ).loc main_arg0) : Vec Ideal S512x32 .f32) (ix2 ⟨128 * t.val + q.val, by have := tlt t; omega⟩ d) := by
  blk_ext [iblk, V, idx t]

theorem blk1 : (iblk m c 1 t : Vec Ideal S4096x32 .f32) = (m ((c : Thread nD τ).loc main_arg1) : Vec Ideal S4096x32 .f32) := by
  funext y
  idx_vars y
  blk_ext [iblk, V, idx t]

theorem blk2 : (iblk m c 2 t : Vec Ideal S4096x16 .f32) = (m ((c : Thread nD τ).loc main_arg2) : Vec Ideal S4096x16 .f32) := by
  funext y
  idx_vars y
  blk_ext [iblk, V, idx t]

theorem dist_eq (q : Fin 128) : dist (iblk m c 0 t) (iblk m c 1 t) q
    = farness (m ((c : Thread nD τ).loc main_arg0)) (m ((c : Thread nD τ).loc main_arg1)) ⟨128 * t.val + q.val, by have := tlt t; omega⟩ := by
  funext i
  rw [blk1]
  unfold dist farness
  simp only [blk0]

theorem emb3 (q : Fin 128) (l : Fin 256) : (win0_3.blk t).view.emb (ix2 q l) = (ix2 ⟨128 * t.val + q.val, by have := tlt t; omega⟩ l : S512x256.Idx) := by
  blk_ext [idx t]

theorem arr_eq (hD : ∀ q i, farness (m ((c : Thread nD τ).loc main_arg0)) (m ((c : Thread nD τ).loc main_arg1)) q i < ⊤) :
    (Gen.dats m 0 c).arrAt 3 (cfgs 0).N
      = laid (m ((c : Thread nD τ).loc main_arg0)) (m ((c : Thread nD τ).loc main_arg1)) (m ((c : Thread nD τ).loc main_arg2)) := by
  refine (Gen.dats m 0 c).arrAt_eq_of_covers 3 _ (by decide +kernel) fun t hf y => ?_
  blk_simp
  rw [after0_3, block_eq]
  change outOf _ _ y = _
  idx_vars y
  rw [emb3]
  obtain ⟨a, b, hl, hy⟩ : ∃ (a b : Fin 16) (hl : 16 * a.val + b.val < 256), y1 = ⟨16 * a.val + b.val, hl⟩ :=
    ⟨⟨y1.val / 16, by omega⟩, ⟨y1.val % 16, Nat.mod_lt _ (by decide)⟩, by show 16 * (y1.val / 16) + y1.val % 16 < 256; omega,
      Fin.ext (by show y1.val = 16 * (y1.val / 16) + y1.val % 16; omega)⟩
  subst hy
  rw [out_read]
  simp only [mask_read m c t (fun q i => by rw [dist_eq]; exact hD _ _), dist_eq, blk2]
  exact (laid_read _ _ _ _ a b hl).symm

end Cert.KernelIdeal.Val

end
-- ==== Proof.Nearest.lean ====
/- A stable sort by key puts the positions in the order of `Bef`: its `p`-th position has rank `p`. -/
module

public import proofs.«01_k».proof.Proof.Rank
public import Idealize.ShloMosaic.Lib.SortFacts

@[expose] public section

noncomputable section

namespace Cert.Rank

open Idealize.ShloMosaic

variable {α : Type} [LinearOrder α] {n : ℕ}

theorem pairwise_insert (D : Fin n → α) (before : Fin n → Fin n → Bool) (hb : ∀ i j, before i j = true ↔ D i < D j) (a : Fin n)
    (l : List (Fin n)) (ha : ∀ b ∈ l, a < b) (hl : l.Pairwise (Bef D)) : (insertBefore before a l).Pairwise (Bef D) := by
  induction l with
  | nil => exact List.pairwise_singleton _ _
  | cons b l ih =>
    unfold insertBefore
    obtain ⟨hbl, hl'⟩ := List.pairwise_cons.mp hl
    split
    · rename_i h
      refine List.pairwise_cons.mpr ⟨fun c hc => ?_, ih (fun c hc => ha c (List.mem_cons_of_mem _ hc)) hl'⟩
      rcases List.mem_cons.mp ((perm_insertBefore before a l).mem_iff.mp hc) with rfl | hc'
      · exact Or.inl ((hb _ _).mp h)
      · exact hbl c hc'
    · rename_i h
      have hab : Bef D a b := by
        have h' : ¬ D b < D a := fun hh => h ((hb _ _).mpr hh)
        rcases lt_or_eq_of_le (not_lt.mp h') with h1 | h1
        · exact Or.inl h1
        · exact Or.inr ⟨h1, ha b List.mem_cons_self⟩
      refine List.pairwise_cons.mpr ⟨fun c hc => ?_, hl⟩
      rcases List.mem_cons.mp hc with rfl | hc'
      · exact hab
      · exact bef_trans hab (hbl c hc')

theorem pairwise_sort (D : Fin n → α) (before : Fin n → Fin n → Bool) (hb : ∀ i j, before i j = true ↔ D i < D j)
    (l : List (Fin n)) (hl : l.Pairwise (· < ·)) : (stableSort before l).Pairwise (Bef D) := by
  induction l with
  | nil => exact List.Pairwise.nil
  | cons a l ih =>
    unfold stableSort
    obtain ⟨h1, h2⟩ := List.pairwise_cons.mp hl
    exact pairwise_insert D before hb a _ (fun b hb' => h1 b ((perm_stableSort before l).mem_iff.mp hb')) (ih h2)

/-- The position a stable sort by key puts at `p` has rank `p`. -/
theorem rk_sortedFrom (D : Fin n → α) (before : Fin n → Fin n → Bool) (hb : ∀ i j, before i j = true ↔ D i < D j) (p : Fin n) :
    rk D (sortedFrom before p) = p := by
  refine rk_of_sorted _ (sortedFrom_injective before) (fun p q hpq => ?_) p
  have h := pairwise_sort D before hb (List.finRange n) (List.pairwise_lt_finRange n)
  exact List.pairwise_iff_get.mp h _ _ hpq

end Cert.Rank

end
-- ==== Proof.Ref.lean ====
/- The reference's result at an index, at the exact values. -/
module

public import proofs.«01_k».proof.Proof.Gen.ReferenceIdeal.Run
public import proofs.«01_k».proof.Proof.Nearest
public import Idealize.ShloMosaic.Lib.Pipeline.ValueKit
public import Idealize.ShloMosaic.Lib.WordCmp

@[expose] public section

set_option maxRecDepth 16384
set_option maxHeartbeats 400000

noncomputable section

namespace Cert.ReferenceIdeal.Val

open Idealize.ShloMosaic Idealize.ShloMosaic.TcCoe Idealize.ShloMosaic.Tactic
open Idealize.SL.Sem Cert.ReferenceIdeal.Gen Cert.Rank

/-- The negated distances. -/
def negDist (X : FVec Ideal S512x32 .f32) (T : FVec Ideal S4096x32 .f32) : FVec Ideal S512x4096 .f32 :=
  Host.negf (Host.sqrt (Host.reduceAdd (mulf (subf (broadcastInDim S512x4096x32 ![0, 1, 2] bcast_S1x4096x32_S512x4096x32_0_1_2 (broadcastInDim S1x4096x32 ![1, 2] bcast_S4096x32_S1x4096x32_1_2 T)) (broadcastInDim S512x4096x32 ![0, 1, 2] bcast_S512x1x32_S512x4096x32_0_1_2 (broadcastInDim S512x1x32 ![0, 2] bcast_S512x32_S512x1x32_0_2 X))) (subf (broadcastInDim S512x4096x32 ![0, 1, 2] bcast_S1x4096x32_S512x4096x32_0_1_2 (broadcastInDim S1x4096x32 ![1, 2] bcast_S4096x32_S1x4096x32_1_2 T)) (broadcastInDim S512x4096x32 ![0, 1, 2] bcast_S512x1x32_S512x4096x32_0_1_2 (broadcastInDim S512x1x32 ![0, 2] bcast_S512x32_S512x1x32_0_2 X)))) (constant S_ .f32 0x00000000#32) reducesTo_S512x4096x32_S512x4096_d2 h_S_))

/-- The columns of the eight nearest training rows. -/
def near (X : FVec Ideal S512x32 .f32) (T : FVec Ideal S4096x32 .f32) : IVec S512x8 32 :=
  (Host.topK S512x8 1 (FloatOps.cmpfTotal .gt) (negDist X T) sliceFits_S512x4096_S512x8).2

/-- The distance from query row `q` to training row `i`. -/
def away (X : FVec Ideal S512x32 .f32) (T : FVec Ideal S4096x32 .f32) (q : Fin 512) (i : Fin 4096) : EReal :=
  Ideal.sqrt (∑ d : Fin 32, ((T (ix2 i d) : EReal) - X (ix2 q d)) * ((T (ix2 i d) : EReal) - X (ix2 q d)))

theorem negDist_read (X : FVec Ideal S512x32 .f32) (T : FVec Ideal S4096x32 .f32) (q : Fin 512) (i : Fin 4096) :
    negDist X T (ix2 q i) = (-away X T q i : EReal) := by
  pointwise [negDist, away]

/-- The training row the reference's stable sort puts at place `p` for query row `q`. -/
def src (X : FVec Ideal S512x32 .f32) (T : FVec Ideal S4096x32 .f32) (q : Fin 512) (p : Fin 4096) : Fin 4096 :=
  sortedFrom (fun k k' => FloatOps.cmpfTotal .gt (negDist X T (ix2 q k)) (negDist X T (ix2 q k')) == 1#1) p

theorem rk_src (X : FVec Ideal S512x32 .f32) (T : FVec Ideal S4096x32 .f32) (q : Fin 512) (p : Fin 4096) :
    rk (away X T q) (src X T q p) = p := by
  refine rk_sortedFrom _ _ (fun i j => ?_) p
  rw [negDist_read, negDist_read]
  show (Ideal.cmpTotal .gt (-away X T q i) (-away X T q j) == 1#1) = true ↔ _
  rw [beq_iff_eq]
  show BitVec.ofBool (decide (-away X T q j < -away X T q i)) = 1#1 ↔ _
  have hn : away X T q i < away X T q j ↔ -away X T q j < -away X T q i := EReal.neg_lt_neg_iff.symm
  rw [hn]
  by_cases h : -away X T q j < -away X T q i
  · rw [decide_eq_true h]; exact ⟨fun _ => h, fun _ => rfl⟩
  · rw [decide_eq_false h]; exact ⟨fun h' => absurd h' (by decide), fun h' => absurd h' h⟩

/-- The places of a sort along the rows of a matrix, read at an index. -/
theorem topK_read {α : Type} {R N K : ℕ} (gt : α → α → BitVec 1) (x : (⟨2, ![R, N]⟩ : Shape).Idx → α)
    (h : (⟨2, ![R, N]⟩ : Shape).Slices (fun _ => 0) (⟨2, ![R, K]⟩ : Shape)) (q : Fin R) (p : Fin K) (hp : p.val < N) :
    (Host.topK (⟨2, ![R, K]⟩ : Shape) 1 gt x h).2 (ix2 q p)
      = BitVec.ofNat 32 (sortedFrom (fun k k' : Fin N => gt (x (ix2 q k)) (x (ix2 q k')) == 1#1) ⟨p.val, hp⟩).val := by
  have ha : ∀ (j : (⟨2, ![R, N]⟩ : Shape).Idx) (k : Fin N), j.along (1 : Fin 2) k = ix2 (j 0) k := fun j k => by
    funext a; fin_cases a <;> rfl
  unfold Host.topK
  dsimp only
  rw [extractStridedSlice_apply _ _ _ _ (ix2 q ⟨p.val, hp⟩) (fun a => by fin_cases a <;> exact (Nat.zero_add _).symm)]
  unfold Host.sort2
  rw [dif_pos (show 1 < (⟨2, ![R, N]⟩ : Shape).rank from Nat.one_lt_two)]
  dsimp only
  rw [dif_pos (show 1 < 2 by decide)]
  refine congrArg (fun k : Fin N => BitVec.ofNat 32 k.val) (congrArg (fun b => sortedFrom b (⟨p.val, hp⟩ : Fin N)) ?_)
  funext k k'
  exact congrArg₂ (fun i j => gt (x i) (x j) == 1#1) (ha _ k) (ha _ k')

theorem near_read (X : FVec Ideal S512x32 .f32) (T : FVec Ideal S4096x32 .f32) (q : Fin 512) (p : Fin 8) :
    near X T (ix2 q p) = BitVec.ofNat 32 (src X T q ⟨p.val, by omega⟩).val := by
  unfold near src
  exact topK_read _ _ _ q p _

/-! ## Words -/

theorem wrap : ∀ s : Fin 4096, Scalar.select (IntOp.cmpi .slt (BitVec.ofNat 32 s.val) 0#32) (IntOp.addi (BitVec.ofNat 32 s.val) 4096#32) (BitVec.ofNat 32 s.val)
    = BitVec.ofNat 32 s.val := by decide +kernel

theorem inb : ∀ s : Fin 4096, IntOp.andi (IntOp.cmpi .sge (BitVec.ofNat 32 s.val) 0#32) (IntOp.cmpi .sle (BitVec.ofNat 32 s.val) 4095#32) = 1#1 := by
  decide +kernel

theorem clampRow : ∀ s : Fin 4096, min (BitVec.ofNat 32 s.val).toInt.toNat 4095 = s.val := by decide +kernel

theorem fold_add {ι : Type} [Fintype ι] (g : ι → ℕ) :
    Finset.fold IntOp.addi 0#32 (fun x => BitVec.ofNat 32 (g x)) Finset.univ = BitVec.ofNat 32 (∑ x, g x) := by
  classical
  refine Finset.induction_on (Finset.univ : Finset ι) rfl fun a s ha ih => ?_
  rw [Finset.fold_insert ha, Finset.sum_insert ha, ih]
  exact (BitVec.ofNat_add _ _).symm

theorem fold_one (v : BitVec 1) : Finset.fold IntOp.andi 1#1 (fun _ : Fin 1 => v) Finset.univ = v := by
  rw [show (Finset.univ : Finset (Fin 1)) = {0} from rfl, Finset.fold_singleton]
  revert v; decide

/-- The gather of whole rows, read at an index. -/
theorem gather_read (Y : S4096x16.Idx → EReal) (idx : IVec S512x8x1 32) (q : Fin 512) (p : Fin 8) (a : Fin 16) (s : Fin 4096)
    (hs : idx (ix3 q p 0) = BitVec.ofNat 32 s.val) :
    Host.gather gather_S4096x16_S512x8x1_S512x8x16_2_0_n_n_0_2_116 Y idx (ix3 q p a) = Y (ix2 s a) := by
  unfold Host.gather
  congr 1
  funext b
  refine Fin.ext ?_
  have hc : (gather_S4096x16_S512x8x1_S512x8x16_2_0_n_n_0_2_116).collapsedSliceDims = [(0 : Fin 2)] := rfl
  have hm : (gather_S4096x16_S512x8x1_S512x8x16_2_0_n_n_0_2_116).startIndexMap = [(0 : Fin 2)] := rfl
  show (gather_S4096x16_S512x8x1_S512x8x16_2_0_n_n_0_2_116).start _ idx b
    + (gather_S4096x16_S512x8x1_S512x8x16_2_0_n_n_0_2_116).batchCoord _ b
    + (gather_S4096x16_S512x8x1_S512x8x16_2_0_n_n_0_2_116).offCoord _ b = _
  rw [GatherDims.batchCoord_eq_zero _ _ _ List.not_mem_nil]
  have h01 : b = (0 : Fin 2) ∨ b = (1 : Fin 2) := by
    match b with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S4096x16_S512x8x1_S512x8x16_2_0_n_n_0_2_116).startIndexMap from List.mem_singleton.mpr rfl)]
    have hsi : (gather_S4096x16_S512x8x1_S512x8x16_2_0_n_n_0_2_116).siIdx (ix3 q p a)
        ⟨List.idxOf (0 : Fin 2) (gather_S4096x16_S512x8x1_S512x8x16_2_0_n_n_0_2_116).startIndexMap,
        List.idxOf_lt_length_iff.2 (List.mem_singleton.mpr rfl)⟩ = ix3 q p 0 := by
      funext b; refine Fin.ext ?_
      match b with
      | ⟨0, _⟩ => rfl
      | ⟨1, _⟩ => rfl
      | ⟨2, _⟩ => rfl
    refine Eq.trans (congrArg (fun w : BitVec 32 => min w.toInt.toNat 4095) ((congrArg idx hsi).trans hs)) (clampRow s)
  · unfold GatherDims.start
    rw [dif_neg (show (1 : Fin 2) ∉ (gather_S4096x16_S512x8x1_S512x8x16_2_0_n_n_0_2_116).startIndexMap from
      fun h => absurd (List.mem_singleton.mp h) (by decide))]
    simp only [Nat.zero_add, Nat.add_zero]
    unfold GatherDims.offCoord
    rw [dif_pos (show (1 : Fin 2) ∈ (gather_S4096x16_S512x8x1_S512x8x16_2_0_n_n_0_2_116).sKept from
      (GatherDims.mem_sKept _ _).mpr ⟨fun h => absurd (List.mem_singleton.mp h) (by decide), List.not_mem_nil⟩)]
    rfl

/-- The label 0 or 1 as an integer word. -/
theorem label (n : ℕ) (h : n ≤ 1) : (FloatOps.fptosi (F := Ideal) (φ := .f32) 32 ((n : ℝ) : EReal) : BitVec 32) = BitVec.ofNat 32 n := by
  show BitVec.ofInt 32 (Ideal.toIntClamped _ _ ((n : ℝ) : EReal)) = _
  have hc : ∀ (lo hi : ℤ) (r : ℝ), Ideal.toIntClamped lo hi (r : EReal) = max lo (min hi (if 0 ≤ r then ⌊r⌋ else ⌈r⌉)) := fun _ _ _ => rfl
  rw [hc]
  interval_cases n <;> simp

theorem bit (n b : ℕ) (h : n ≤ 1) (hb : b < 16) :
    BitVec.setWidth 32 (BitVec.ofBool (decide ((BitVec.ofNat 32 n).toNat = (BitVec.ofNat 32 b).toNat))) = BitVec.ofNat 32 (if n = b then 1 else 0) := by
  interval_cases n <;> interval_cases b <;> decide

theorem quotient (n : ℕ) (h : n ≤ 8) : Ideal.div (FloatOps.sitofp (F := Ideal) .f32 (BitVec.ofNat 32 n)) (FloatOps.sitofp (F := Ideal) .f32 (BitVec.ofNat 32 8))
    = (((n : ℝ) / 8 : ℝ) : EReal) := by
  have hs : ∀ k, k ≤ 8 → FloatOps.sitofp (F := Ideal) .f32 (BitVec.ofNat 32 k) = ((k : ℝ) : EReal) := fun k hk => by
    show (((BitVec.ofNat 32 k).toInt : ℝ) : EReal) = _
    have : (BitVec.ofNat 32 k).toInt = k := by interval_cases k <;> decide
    rw [this]; norm_cast
  rw [hs n h, hs 8 le_rfl]
  unfold Ideal.div
  rw [if_neg (by norm_num), ← EReal.coe_inv, ← EReal.coe_mul, div_eq_mul_inv]
  norm_cast

variable (m : (ℓ : Loc nD τ sig) → Buf (Elt Ideal) ℓ) (c : Dev nD)

theorem res_read (q : Fin 512) (a b : Fin 16) (ℓ : Fin 8 → ℕ) (hℓ : ∀ p, ℓ p ≤ 1) (σ : Fin 8 → Fin 4096)
    (hσ : ∀ p, near (m ((c.tc : Thread nD τ).loc main_arg0)) (m ((c.tc : Thread nD τ).loc main_arg1)) (ix2 q p) = BitVec.ofNat 32 (σ p).val)
    (hY : ∀ p, (m ((c.tc : Thread nD τ).loc main_arg2) : FVec Ideal S4096x16 .f32) (ix2 (σ p) a) = ((ℓ p : ℝ) : EReal)) :
    Value.res_main_v18 (F := Ideal) m c (ix3 q a b) = ((((∑ p, if ℓ p = b.val then 1 else 0 : ℕ) : ℝ) / 8 : ℝ) : EReal) := by
  unfold Value.res_main_v18
  rw [← negDist]
  rw [← near]
  revert hσ
  generalize near _ _ = I
  intro hσ
  have hg : ∀ p, Host.gather gather_S4096x16_S512x8x1_S512x8x16_2_0_n_n_0_2_116 (m ((c.tc : Thread nD τ).loc main_arg2))
      (broadcastInDim S512x8x1 ![0, 1] bcast_S512x8_S512x8x1_0_1 (select (cmpi .slt I (constantI S512x8 32 0#32))
        (addi I (constantI S512x8 32 4096#32)) I)) (ix3 q p a) = ((ℓ p : ℝ) : EReal) := fun p => by
    rw [← hY p]
    refine gather_read _ _ q p a (σ p) ?_
    pointwise
    rw [hσ]; exact wrap (σ p)
  pointwise [hlo_ix]
  simp only [hσ, wrap, inb, fold_one, hg, Idealize.ShloMosaic.WordCmp.select_one, label _ (hℓ _)]
  simp only [bit _ _ (hℓ _) (Fin.isLt _), fold_add]
  have hT : (∑ x : Fin 16, ∑ p : Fin 8, if ℓ p = x.val then 1 else 0) = 8 := by
    rw [Finset.sum_comm]
    have h1 : ∀ p : Fin 8, (∑ x : Fin 16, if ℓ p = x.val then 1 else 0) = 1 := fun p => by
      have := hℓ p
      interval_cases ℓ p <;> decide
    rw [Finset.sum_congr rfl fun p _ => h1 p]
    rfl
  have hN : (∑ p : Fin 8, if ℓ p = b.val then 1 else 0) ≤ 8 := by
    refine (Finset.sum_le_card_nsmul Finset.univ _ 1 fun p _ => ?_).trans (by simp)
    split <;> omega
  rw [hT]
  exact quotient _ hN

end Cert.ReferenceIdeal.Val
end
-- ==== Proof.Pre.lean ====
/- What the precondition says of the arguments: finite points, labels 0 or 1. -/
module

public import proofs.«01_k».proof.Pre_finite_and_labels
public import Idealize.ShloMosaic.Lib.Pipeline.ValueKit
public import Idealize.ShloMosaic.Lib.WordCmp
public import Idealize.ShloMosaic.Lib.ReduceAll

@[expose] public section

noncomputable section

namespace Cert.Pre_finite_and_labels

open Idealize.ShloMosaic

variable [Facts]

theorem ofBits_infinity : Ideal.ofBits FTy.f32 0x7F800000#32 = (⊤ : EReal) := by
  simp [Ideal.ofBits, Ideal.ieee]

theorem ofBits_zero : Ideal.ofBits FTy.f32 0x00000000#32 = (0 : EReal) := by
  simp [Ideal.ofBits, Ideal.ieee]

theorem ofBits_one : Ideal.ofBits FTy.f32 0x3F800000#32 = (1 : EReal) := by
  simp [Ideal.ofBits, Ideal.ieee]; rw [← EReal.coe_mul]; norm_num

theorem prop_of_bit (p : Prop) [Decidable p] (h : BitVec.ofBool (decide p) = 1#1) : p := by
  by_contra hp
  rw [decide_eq_false hp] at h
  exact absurd h (by decide)

theorem real_of_bit (x : EReal) (h : Ideal.cmp .olt (max x (-x)) (Ideal.ofBits FTy.f32 0x7F800000#32) = 1#1) : ∃ r : ℝ, x = (r : EReal) := by
  have hx : max x (-x) < Ideal.ofBits FTy.f32 0x7F800000#32 := prop_of_bit _ h
  rw [ofBits_infinity] at hx
  induction x using EReal.rec with
  | bot => exact absurd hx (by simp)
  | top => exact absurd hx (by simp)
  | coe r => exact ⟨r, rfl⟩

theorem read (X : FVec Ideal S512x32 .f32) (T : FVec Ideal S4096x32 .f32) (Y : FVec Ideal S4096x16 .f32)
    (h : fn (F := Ideal) X T Y = fun _ => 1#1) :
    (∀ q d, ∃ r : ℝ, X (ix2 q d) = (r : EReal)) ∧ (∀ i d, ∃ r : ℝ, T (ix2 i d) = (r : EReal))
      ∧ ∀ i a, ∃ n : ℕ, n ≤ 1 ∧ Y (ix2 i a) = ((n : ℝ) : EReal) := by
  have h0 := congrFun h (fun a => a.elim0)
  unfold fn at h0
  dsimp only at h0
  obtain ⟨h01, hY⟩ := IntOp.andi_eq_one.mp h0
  obtain ⟨hX, hT⟩ := IntOp.andi_eq_one.mp h01
  have sub : Subsingleton S_.Idx := ⟨fun a b => funext fun k => k.elim0⟩
  refine ⟨fun q d => ?_, fun i d => ?_, fun i a => ?_⟩
  · exact real_of_bit _ (Host.reduce_andi_all _ _ _ _ _ hX (ix2 q d))
  · exact real_of_bit _ (Host.reduce_andi_all _ _ _ _ _ hT (ix2 i d))
  · rcases IntOp.ori_eq_one.mp (Host.reduce_andi_all _ _ _ _ _ hY (ix2 i a)) with h2 | h2
    · have h3 : Y (ix2 i a) = Ideal.ofBits FTy.f32 0x00000000#32 := prop_of_bit _ h2
      exact ⟨0, by decide, by rw [h3, ofBits_zero]; simp⟩
    · have h3 : Y (ix2 i a) = Ideal.ofBits FTy.f32 0x3F800000#32 := prop_of_bit _ h2
      exact ⟨1, by decide, by rw [h3, ofBits_one]; simp⟩

end Cert.Pre_finite_and_labels

end
-- ==== Proof.Agree.lean ====
/- The two programs' results, compared entry by entry. -/
module

public import proofs.«01_k».proof.Proof.Array
public import proofs.«01_k».proof.Proof.Ref
public import proofs.«01_k».proof.Proof.Pre

@[expose] public section

set_option maxRecDepth 16384
set_option maxHeartbeats 400000

noncomputable section

namespace Cert.Agree

open Idealize.ShloMosaic Cert.Rank
open Cert.KernelIdeal.Val (farness share entry laid)
open Cert.ReferenceIdeal.Val (away)

variable (X : Vec Ideal Cert.KernelIdeal.S512x32 .f32) (T : Vec Ideal Cert.KernelIdeal.S4096x32 .f32)
  (Y : Vec Ideal Cert.KernelIdeal.S4096x16 .f32)
  (x : Fin 512 → Fin 32 → ℝ) (t : Fin 4096 → Fin 32 → ℝ)

theorem coe_sum {ι : Type} (s : Finset ι) (f : ι → ℝ) : (∑ i ∈ s, (f i : EReal)) = ((∑ i ∈ s, f i : ℝ) : EReal) := by
  classical
  refine Finset.induction_on s rfl fun a s ha ih => ?_
  rw [Finset.sum_insert ha, Finset.sum_insert ha, ih, EReal.coe_add]

theorem farness_real (hx : ∀ q d, X (ix2 q d) = (x q d : EReal)) (ht : ∀ i d, T (ix2 i d) = (t i d : EReal)) (q : Fin 512) (i : Fin 4096) :
    farness X T q i = ((∑ d, t i d * t i d - 2 * ∑ d, x q d * t i d : ℝ) : EReal) := by
  unfold farness
  simp only [hx, ht, ← EReal.coe_mul, coe_sum]
  rw [EReal.coe_sub, EReal.coe_mul]
  rfl

theorem away_real (hx : ∀ q d, X (ix2 q d) = (x q d : EReal)) (ht : ∀ i d, T (ix2 i d) = (t i d : EReal)) (q : Fin 512) (i : Fin 4096) :
    away X T q i = ((Real.sqrt (∑ d, (t i d - x q d) * (t i d - x q d)) : ℝ) : EReal) := by
  unfold away
  simp only [hx, ht, ← EReal.coe_sub, ← EReal.coe_mul, coe_sum]
  show (if _ < _ then _ else _) = _
  rw [if_neg (not_lt.mpr (Finset.sum_nonneg fun d _ => mul_self_nonneg _))]

theorem order (hx : ∀ q d, X (ix2 q d) = (x q d : EReal)) (ht : ∀ i d, T (ix2 i d) = (t i d : EReal)) (q : Fin 512) (i j : Fin 4096) :
    away X T q i < away X T q j ↔ farness X T q i < farness X T q j := by
  rw [away_real X T x t hx ht, away_real X T x t hx ht, farness_real X T x t hx ht, farness_real X T x t hx ht, EReal.coe_lt_coe_iff,
    EReal.coe_lt_coe_iff, Real.sqrt_lt_sqrt_iff (Finset.sum_nonneg fun d _ => mul_self_nonneg _)]
  have h : ∀ k, ∑ d, (t k d - x q d) * (t k d - x q d) = (∑ d, t k d * t k d - 2 * ∑ d, x q d * t k d) + ∑ d, x q d * x q d := fun k => by
    rw [Finset.mul_sum, ← Finset.sum_sub_distrib, ← Finset.sum_add_distrib]
    exact Finset.sum_congr rfl fun d _ => by ring
  rw [h, h]
  exact add_lt_add_iff_right _

theorem entry_count (hx : ∀ q d, X (ix2 q d) = (x q d : EReal)) (ht : ∀ i d, T (ix2 i d) = (t i d : EReal))
    (lab : Fin 4096 → Fin 16 → ℕ) (hl : ∀ i a, lab i a ≤ 1) (hY : ∀ i a, Y (ix2 i a) = ((lab i a : ℝ) : EReal))
    (q : Fin 512) (a b : Fin 16) (σ : Fin 8 → Fin 4096) (hσ : ∀ p, rk (away X T q) (σ p) = p) :
    entry X T Y q a b = ((((∑ p, if lab (σ p) a = b.val then 1 else 0 : ℕ) : ℝ) / 8 : ℝ) : EReal) := by
  have hσ' : ∀ p, rk (farness X T q) (σ p) = p := fun p => (rk_congr _ _ (fun i j => (order X T x t hx ht q i j).symm) _).trans (hσ p)
  have hs : share X T Y q a = (((∑ p, lab (σ p) a : ℕ) : ℝ) / 8 : ℝ) := by
    unfold share
    have h1 : ∀ i, ind (farness X T q) 8 i * (Y (ix2 i a) : EReal) = if rk (farness X T q) i < 8 then (Y (ix2 i a) : EReal) else 0 := fun i => by
      unfold ind; split
      · exact one_mul _
      · exact zero_mul _
    rw [Finset.sum_congr rfl fun i _ => h1 i, ← sum_first (by decide) σ hσ' (fun i => (Y (ix2 i a) : EReal))]
    simp only [hY, coe_sum]
    rw [← EReal.coe_mul]
    refine congrArg _ ?_
    push_cast
    ring
  unfold entry
  rw [hs]
  have h0 : (∑ p, if lab (σ p) a = 0 then 1 else 0) + ∑ p, lab (σ p) a = 8 := by
    rw [← Finset.sum_add_distrib]
    refine (Finset.sum_congr rfl fun p _ => ?_).trans (show ∑ _p : Fin 8, 1 = 8 from rfl)
    have := hl (σ p) a
    split <;> omega
  split
  · rename_i hb
    subst hb
    rw [← EReal.coe_one, ← EReal.coe_sub]
    congr 1
    have h2 : ((∑ p, if lab (σ p) a = 0 then 1 else 0 : ℕ) : ℝ) + ((∑ p, lab (σ p) a : ℕ) : ℝ) = 8 := by exact_mod_cast h0
    have h3 : ((∑ p, if lab (σ p) a = ((0 : Fin 16) : ℕ) then 1 else 0 : ℕ) : ℝ) = 8 - ((∑ p, lab (σ p) a : ℕ) : ℝ) := by
      rw [← h2]; simp
    rw [h3]; ring
  · split
    · rename_i hb
      subst hb
      congr 3
      refine Finset.sum_congr rfl fun p _ => ?_
      have := hl (σ p) a
      show _ = if lab (σ p) a = 1 then 1 else 0
      split <;> omega
    · rename_i hb0 hb1
      have h4 : (∑ p, if lab (σ p) a = b.val then 1 else 0) = 0 := Finset.sum_eq_zero fun p _ => by
        have := hl (σ p) a
        have hb0' : b.val ≠ 0 := fun h => hb0 (Fin.ext h)
        have hb1' : b.val ≠ 1 := fun h => hb1 (Fin.ext h)
        rw [if_neg (by omega)]
      rw [h4]; simp

end Cert.Agree

end
-- ==== Proof.Result.lean ====
/- The two programs' whole results are one array. -/
module

public import proofs.«01_k».proof.Proof.Agree
public import proofs.«01_k».proof.Proof.Gen.KernelIdeal.Launch

@[expose] public section

set_option maxRecDepth 16384
set_option maxHeartbeats 400000

noncomputable section

namespace Cert.Agree

open Idealize.ShloMosaic Cert.Rank
open Cert.KernelIdeal.Val (farness share entry laid laid_read)
open Cert.ReferenceIdeal.Val (away)

/-- The result: entry `(q, a, b)` is the share of label `b` in class `a` among the eight nearest rows. -/
def result (X : Vec Ideal Cert.KernelIdeal.S512x32 .f32) (T : Vec Ideal Cert.KernelIdeal.S4096x32 .f32)
    (Y : Vec Ideal Cert.KernelIdeal.S4096x16 .f32) : Vec Ideal Cert.KernelIdeal.S512x16x16 .f32 :=
  fun j => entry X T Y (j 0) (j 1) (j 2)

section Kernel
open Cert.KernelIdeal

theorem reshape_laid (X : Vec Ideal S512x32 .f32) (T : Vec Ideal S4096x32 .f32) (Y : Vec Ideal S4096x16 .f32)
    (h : S512x256.ShapeCasts S512x16x16) : shapeCast S512x16x16 (laid X T Y) h = result X T Y := by
  funext j
  idx_vars j
  pointwise
  have e : (⟨j1.val * 16 + j2.val, by omega⟩ : Fin 256) = ⟨16 * j1.val + j2.val, by omega⟩ := Fin.ext (by show j1.val * 16 + j2.val = 16 * j1.val + j2.val; omega)
  rw [e]
  exact laid_read X T Y j0 j1 j2 _

theorem far_lt_top [Cert.Pre_finite_and_labels.Facts] (X : Vec Ideal S512x32 .f32) (T : Vec Ideal S4096x32 .f32) (Y : Vec Ideal S4096x16 .f32)
    (h : Cert.Pre_finite_and_labels.fn (F := Ideal) X T Y = fun _ => 1#1) (q : Fin 512) (i : Fin 4096) : farness X T q i < ⊤ := by
  obtain ⟨hX, hT, -⟩ := Cert.Pre_finite_and_labels.read _ _ _ h
  choose x hx using hX
  choose t ht using hT
  rw [farness_real X T x t hx ht]
  exact EReal.coe_lt_top _

end Kernel

section Reference
open Cert.ReferenceIdeal
variable [Cert.Pre_finite_and_labels.Facts] (m : (ℓ : Loc nD τ sig) → Buf (Elt Ideal) ℓ) (c : Dev nD)

theorem reference_result (h : Cert.Pre_finite_and_labels.fn (F := Ideal) (m ((c.tc : Thread nD τ).loc main_arg0)) (m ((c.tc : Thread nD τ).loc main_arg1))
      (m ((c.tc : Thread nD τ).loc main_arg2)) = fun _ => 1#1) :
    Value.res_main_v18 (F := Ideal) m c
      = result (m ((c.tc : Thread nD τ).loc main_arg0)) (m ((c.tc : Thread nD τ).loc main_arg1)) (m ((c.tc : Thread nD τ).loc main_arg2)) := by
  obtain ⟨hX, hT, hY⟩ := Cert.Pre_finite_and_labels.read _ _ _ h
  choose x hx using hX
  choose t ht using hT
  choose lab hl hlab using hY
  have hσ := Cert.ReferenceIdeal.Val.rk_src (m ((c.tc : Thread nD τ).loc main_arg0)) (m ((c.tc : Thread nD τ).loc main_arg1))
  refine funext fun (j : S512x16x16.Idx) => ?_
  have hj : j = ix3 (j 0) (j 1) (j 2) := by funext k; fin_cases k <;> rfl
  rw [hj]
  refine (Cert.ReferenceIdeal.Val.res_read m c (j 0) (j 1) (j 2)
    (fun p => lab (Cert.ReferenceIdeal.Val.src (m ((c.tc : Thread nD τ).loc main_arg0)) (m ((c.tc : Thread nD τ).loc main_arg1)) (j 0) ⟨p.val, by omega⟩) (j 1))
    (fun p => hl _ _) (fun p => Cert.ReferenceIdeal.Val.src (m ((c.tc : Thread nD τ).loc main_arg0)) (m ((c.tc : Thread nD τ).loc main_arg1)) (j 0) ⟨p.val, by omega⟩)
    (fun p => Cert.ReferenceIdeal.Val.near_read _ _ _ _) (fun p => hlab _ _)).trans ?_
  exact (entry_count _ _ _ x t hx ht lab hl hlab (j 0) (j 1) (j 2) _ (fun p => hσ (j 0) ⟨p.val, by omega⟩)).symm

end Reference

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_and_labels
public import proofs.«01_k».proof.Proof.Result
public import Idealize.ShloMosaic.Lib.Claim
public import Idealize.ShloMosaic.Adequacy
public import Idealize.ShloMosaic.Init

@[expose] public section

noncomputable section

namespace Cert.Proof

open Idealize.ShloMosaic Idealize.SL.Sem

/-- The reference runs, its arguments end unchanged, its counters end at zero: it declares no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- The two programs' results are the same array. -/
theorem algebraic : Cert.algebraic_KernelIdeal_ReferenceIdeal_pre_finite_and_labels := by
  pair_intro
  · run_from Cert.KernelIdeal.Gen.run_main m g
  · run_from Cert.ReferenceIdeal.Value.run m' g'
    obtain ⟨h0, h1, h2⟩ := hagree c
    rw [Cert.Agree.reference_result m' c (by rw [h0, h1, h2]; exact hpre c), h0, h1, h2]
    refine (Eq.trans ?_ (Cert.Agree.reshape_laid _ _ _ Cert.KernelIdeal.Gen.shapeCasts_S512x256_S512x16x16)).symm
    unfold Pipeline.afterTail₀
    show StableHlo.after Cert.KernelIdeal.Gen.hostOps1 _ _ = _
    unfold Cert.KernelIdeal.Gen.hostOps1
    after_results
    erw [Pipeline.withArrays_arr Cert.KernelIdeal.spec0 Cert.KernelIdeal.Gen.launch0.win.arr_inj c _ _ 3]
    rw [Cert.KernelIdeal.Val.arr_eq m c (fun q i => Cert.Agree.far_lt_top _ _ _ (hpre c) q i)]
    rfl

theorem claim : Cert.Claim :=
  ⟨Cert.Kernel.Gen.facts, Cert.KernelIdeal.Gen.facts, Cert.ReferenceIdeal.Gen.facts, Cert.Pre_finite_and_labels.Gen.facts,
    fun m g _ => Cert.Kernel.Gen.frame m g, fun m g _ => Cert.KernelIdeal.Gen.frame m g, fun m g _ => Cert.KernelIdeal.Gen.frame m g,
    fun m g _ => reference_frame m g, fun m g _ => reference_frame m g, trivial, algebraic⟩

end Cert.Proof

end
